-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S1000x32 : Shape := ⟨2, ![1000, 32]⟩
abbrev S1600x256 : Shape := ⟨2, ![1600, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S1000x32 .f32) (main_arg2 : FVec F S1600x256 .f32) (main_arg3 : FVec F S256 .f32) (main_arg4 : FVec F S256x10 .f32) (main_arg5 : FVec F S10 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 1000#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S1000x32 : Shape := ⟨2, ![1000, 32]⟩
abbrev S1600x256 : Shape := ⟨2, ![1600, 256]⟩
abbrev S256 : Shape := ⟨1, ![256]⟩
abbrev S256x10 : Shape := ⟨2, ![256, 10]⟩
abbrev S10 : Shape := ⟨1, ![10]⟩
abbrev S819200 : Shape := ⟨1, ![819200]⟩
abbrev S2000x16 : Shape := ⟨2, ![2000, 16]⟩
abbrev S819200x1 : Shape := ⟨2, ![819200, 1]⟩
abbrev S_ : Shape := ⟨0, ![]⟩
abbrev S2 : Shape := ⟨1, ![2]⟩
abbrev S1x2 : Shape := ⟨2, ![1, 2]⟩
abbrev S819200x2 : Shape := ⟨2, ![819200, 2]⟩
abbrev S1638400 : Shape := ⟨1, ![1638400]⟩
abbrev S1x256 : Shape := ⟨2, ![1, 256]⟩
abbrev S1x10 : Shape := ⟨2, ![1, 10]⟩
abbrev S409600 : Shape := ⟨1, ![409600]⟩
abbrev S409600x16 : Shape := ⟨2, ![409600, 16]⟩
abbrev S12800 : Shape := ⟨1, ![12800]⟩
abbrev S2560x16 : Shape := ⟨2, ![2560, 16]⟩
abbrev S2560 : Shape := ⟨1, ![2560]⟩
abbrev S4096x1600 : Shape := ⟨2, ![4096, 1600]⟩
abbrev S4096x10 : Shape := ⟨2, ![4096, 10]⟩
abbrev S1024x1600 : Shape := ⟨2, ![1024, 1600]⟩
abbrev S1024x10 : Shape := ⟨2, ![1024, 10]⟩
abbrev S1024x256 : Shape := ⟨2, ![1024, 256]⟩
abbrev S1024 : Shape := ⟨1, ![1024]⟩
abbrev S1024x1 : Shape := ⟨2, ![1024, 1]⟩
abbrev S16384x10 : Shape := ⟨2, ![16384, 10]⟩

abbrev nBuf : Table → Nat
  | .hbm => 42
  | .local .tc .vmem => 32
  | .local .scVector .vmem => 12
  | _ => 0

abbrev bufTy : (tb : Table) → Fin (nBuf tb) → BufTy
  | .hbm, ⟨0, _⟩ => ⟨S16384x50, .i32⟩
  | .hbm, ⟨1, _⟩ => ⟨S1000x32, .f32⟩
  | .hbm, ⟨2, _⟩ => ⟨S1600x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S819200, .i32⟩
  | .hbm, ⟨7, _⟩ => ⟨S2000x16, .f32⟩
  | .hbm, ⟨8, _⟩ => ⟨S819200x1, .i32⟩
  | .hbm, ⟨9, _⟩ => ⟨S_, .i32⟩
  | .hbm, ⟨10, _⟩ => ⟨S819200x1, .i32⟩
  | .hbm, ⟨11, _⟩ => ⟨S819200x1, .i32⟩
  | .hbm, ⟨12, _⟩ => ⟨S2, .i32⟩
  | .hbm, ⟨13, _⟩ => ⟨S1x2, .i32⟩
  | .hbm, ⟨14, _⟩ => ⟨S819200x2, .i32⟩
  | .hbm, ⟨15, _⟩ => ⟨S819200x2, .i32⟩
  | .hbm, ⟨16, _⟩ => ⟨S819200x2, .i32⟩
  | .hbm, ⟨17, _⟩ => ⟨S1638400, .i32⟩
  | .hbm, ⟨18, _⟩ => ⟨S1600x256, .bf16⟩
  | .hbm, ⟨19, _⟩ => ⟨S1x256, .f32⟩
  | .hbm, ⟨20, _⟩ => ⟨S1x10, .f32⟩
  | .hbm, ⟨21, _⟩ => ⟨S_, .i32⟩
  | .hbm, ⟨22, _⟩ => ⟨S409600, .i32⟩
  | .hbm, ⟨23, _⟩ => ⟨S409600x16, .f32⟩
  | .hbm, ⟨24, _⟩ => ⟨S4096x1600, .f32⟩
  | .hbm, ⟨25, _⟩ => ⟨S4096x10, .f32⟩
  | .hbm, ⟨26, _⟩ => ⟨S_, .i32⟩
  | .hbm, ⟨27, _⟩ => ⟨S409600, .i32⟩
  | .hbm, ⟨28, _⟩ => ⟨S409600x16, .f32⟩
  | .hbm, ⟨29, _⟩ => ⟨S4096x1600, .f32⟩
  | .hbm, ⟨30, _⟩ => ⟨S4096x10, .f32⟩
  | .hbm, ⟨31, _⟩ => ⟨S_, .i32⟩
  | .hbm, ⟨32, _⟩ => ⟨S409600, .i32⟩
  | .hbm, ⟨33, _⟩ => ⟨S409600x16, .f32⟩
  | .hbm, ⟨34, _⟩ => ⟨S4096x1600, .f32⟩
  | .hbm, ⟨35, _⟩ => ⟨S4096x10, .f32⟩
  | .hbm, ⟨36, _⟩ => ⟨S_, .i32⟩
  | .hbm, ⟨37, _⟩ => ⟨S409600, .i32⟩
  | .hbm, ⟨38, _⟩ => ⟨S409600x16, .f32⟩
  | .hbm, ⟨39, _⟩ => ⟨S4096x1600, .f32⟩
  | .hbm, ⟨40, _⟩ => ⟨S4096x10, .f32⟩
  | .hbm, ⟨41, _⟩ => ⟨S16384x10, .f32⟩
  | .local .tc .vmem, ⟨0, _⟩ => ⟨S1024x1600, .f32⟩
  | .local .tc .vmem, ⟨1, _⟩ => ⟨S1024x1600, .f32⟩
  | .local .tc .vmem, ⟨2, _⟩ => ⟨S1600x256, .bf16⟩
  | .local .tc .vmem, ⟨3, _⟩ => ⟨S1x256, .f32⟩
  | .local .tc .vmem, ⟨4, _⟩ => ⟨S256x10, .f32⟩
  | .local .tc .vmem, ⟨5, _⟩ => ⟨S1x10, .f32⟩
  | .local .tc .vmem, ⟨6, _⟩ => ⟨S1024x10, .f32⟩
  | .local .tc .vmem, ⟨7, _⟩ => ⟨S1024x10, .f32⟩
  | .local .tc .vmem, ⟨8, _⟩ => ⟨S1024x1600, .f32⟩
  | .local .tc .vmem, ⟨9, _⟩ => ⟨S1024x1600, .f32⟩
  | .local .tc .vmem, ⟨10, _⟩ => ⟨S1600x256, .bf16⟩
  | .local .tc .vmem, ⟨11, _⟩ => ⟨S1x256, .f32⟩
  | .local .tc .vmem, ⟨12, _⟩ => ⟨S256x10, .f32⟩
  | .local .tc .vmem, ⟨13, _⟩ => ⟨S1x10, .f32⟩
  | .local .tc .vmem, ⟨14, _⟩ => ⟨S1024x10, .f32⟩
  | .local .tc .vmem, ⟨15, _⟩ => ⟨S1024x10, .f32⟩
  | .local .tc .vmem, ⟨16, _⟩ => ⟨S1024x1600, .f32⟩
  | .local .tc .vmem, ⟨17, _⟩ => ⟨S1024x1600, .f32⟩
  | .local .tc .vmem, ⟨18, _⟩ => ⟨S1600x256, .bf16⟩
  | .local .tc .vmem, ⟨19, _⟩ => ⟨S1x256, .f32⟩
  | .local .tc .vmem, ⟨20, _⟩ => ⟨S256x10, .f32⟩
  | .local .tc .vmem, ⟨21, _⟩ => ⟨S1x10, .f32⟩
  | .local .tc .vmem, ⟨22, _⟩ => ⟨S1024x10, .f32⟩
  | .local .tc .vmem, ⟨23, _⟩ => ⟨S1024x10, .f32⟩
  | .local .tc .vmem, ⟨24, _⟩ => ⟨S1024x1600, .f32⟩
  | .local .tc .vmem, ⟨25, _⟩ => ⟨S1024x1600, .f32⟩
  | .local .tc .vmem, ⟨26, _⟩ => ⟨S1600x256, .bf16⟩
  | .local .tc .vmem, ⟨27, _⟩ => ⟨S1x256, .f32⟩
  | .local .tc .vmem, ⟨28, _⟩ => ⟨S256x10, .f32⟩
  | .local .tc .vmem, ⟨29, _⟩ => ⟨S1x10, .f32⟩
  | .local .tc .vmem, ⟨30, _⟩ => ⟨S1024x10, .f32⟩
  | .local .tc .vmem, ⟨31, _⟩ => ⟨S1024x10, .f32⟩
  | .local .scVector .vmem, ⟨0, _⟩ => ⟨S12800, .i32⟩
  | .local .scVector .vmem, ⟨1, _⟩ => ⟨S2560x16, .f32⟩
  | .local .scVector .vmem, ⟨2, _⟩ => ⟨S2560x16, .f32⟩
  | .local .scVector .vmem, ⟨3, _⟩ => ⟨S12800, .i32⟩
  | .local .scVector .vmem, ⟨4, _⟩ => ⟨S2560x16, .f32⟩
  | .local .scVector .vmem, ⟨5, _⟩ => ⟨S2560x16, .f32⟩
  | .local .scVector .vmem, ⟨6, _⟩ => ⟨S12800, .i32⟩
  | .local .scVector .vmem, ⟨7, _⟩ => ⟨S2560x16, .f32⟩
  | .local .scVector .vmem, ⟨8, _⟩ => ⟨S2560x16, .f32⟩
  | .local .scVector .vmem, ⟨9, _⟩ => ⟨S12800, .i32⟩
  | .local .scVector .vmem, ⟨10, _⟩ => ⟨S2560x16, .f32⟩
  | .local .scVector .vmem, ⟨11, _⟩ => ⟨S2560x16, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 52 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => false
  | ⟨40, _⟩ => false
  | ⟨41, _⟩ => false
  | ⟨42, _⟩ => false
  | ⟨43, _⟩ => false
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTables nBuf rfl bufTy 4 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v1_scv : Ref sig .scVector := ⟨.hbm, 7, rfl⟩
abbrev main_v14_scv : Ref sig .scVector := ⟨.hbm, 22, rfl⟩
abbrev main_v15_scv : Ref sig .scVector := ⟨.hbm, 23, rfl⟩
abbrev main_v18_scv : Ref sig .scVector := ⟨.hbm, 27, rfl⟩
abbrev main_v19_scv : Ref sig .scVector := ⟨.hbm, 28, rfl⟩
abbrev main_v22_scv : Ref sig .scVector := ⟨.hbm, 32, rfl⟩
abbrev main_v23_scv : Ref sig .scVector := ⟨.hbm, 33, rfl⟩
abbrev main_v26_scv : Ref sig .scVector := ⟨.hbm, 37, rfl⟩
abbrev main_v27_scv : Ref sig .scVector := ⟨.hbm, 38, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc3_stg4_0 : Ref sig .tc := ⟨.vmem, 13, rfl⟩
abbrev cc3_stg5_0 : Ref sig .tc := ⟨.vmem, 14, rfl⟩
abbrev cc3_stg5_1 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg2_0 : Ref sig .tc := ⟨.vmem, 19, rfl⟩
abbrev cc5_stg3_0 : Ref sig .tc := ⟨.vmem, 20, rfl⟩
abbrev cc5_stg4_0 : Ref sig .tc := ⟨.vmem, 21, rfl⟩
abbrev cc5_stg5_0 : Ref sig .tc := ⟨.vmem, 22, rfl⟩
abbrev cc5_stg5_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg2_0 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg5_0 : Ref sig .tc := ⟨.vmem, 30, rfl⟩
abbrev cc7_stg5_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let v9 : BitVec 32 := Scalar.addi v2 c0_i32_7
  let c0_i32_8 : BitVec 32 := 0#32
  ![v9.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1600x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  ![v2.toNat]
def k2_off2 (i : grid2.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let v9 : BitVec 32 := Scalar.addi v2 c0_i32_7
  let c0_i32_8 : BitVec 32 := 0#32
  ![v9.toNat, 0]
abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1600 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1600x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  ![v2.toNat]
def k4_off2 (i : grid4.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let v9 : BitVec 32 := Scalar.addi v2 c0_i32_7
  let c0_i32_8 : BitVec 32 := 0#32
  ![v9.toNat, 0]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1600 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1600x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x10 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  ![v2.toNat]
def k6_off2 (i : grid6.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12800_i32 : BitVec 32 := 12800#32
  let v2 : BitVec 32 := Scalar.muli v1 c12800_i32
  let v9 : BitVec 32 := Scalar.addi v2 c0_i32_7
  let c0_i32_8 : BitVec 32 := 0#32
  ![v9.toNat, 0]
abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x1600 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1600x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1024x10 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S16384x50 : Shape := ⟨2, ![16384, 50]⟩
abbrev S1000x32 : Shape := ⟨2, ![1000, 32]⟩
abbrev S1600x256 : Shape := ⟨2, ![1600, 256]⟩
abbrev S256 : Shape := ⟨1, ![256]⟩
abbrev S256x10 : Shape := ⟨2, ![256, 10]⟩
abbrev S10 : Shape := ⟨1, ![10]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x32 : Shape := ⟨3, ![16384, 50, 32]⟩
abbrev S16384x1600 : Shape := ⟨2, ![16384, 1600]⟩
abbrev S16384x256 : Shape := ⟨2, ![16384, 256]⟩
abbrev S1x256 : Shape := ⟨2, ![1, 256]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000x32, .f32⟩
  | .hbm, ⟨2, _⟩ => ⟨S1600x256, .f32⟩
  | .hbm, ⟨3, _⟩ => ⟨S256, .f32⟩
  | .hbm, ⟨4, _⟩ => ⟨S256x10, .f32⟩
  | .hbm, ⟨5, _⟩ => ⟨S10, .f32⟩
  | .hbm, ⟨6, _⟩ => ⟨S_, .i32⟩
  | .hbm, ⟨7, _⟩ => ⟨S16384x50, .i32⟩
  | .hbm, ⟨8, _⟩ => ⟨S16384x50, .i1⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S16384x50, .i32⟩
  | .hbm, ⟨13, _⟩ => ⟨S16384x50x1, .i32⟩
  | .hbm, ⟨14, _⟩ => ⟨S1, .i32⟩
  | .hbm, ⟨15, _⟩ => ⟨S_, .i32⟩
  | .hbm, ⟨16, _⟩ => ⟨S16384x50x1, .i32⟩
  | .hbm, ⟨17, _⟩ => ⟨S16384x50x1, .i1⟩
  | .hbm, ⟨18, _⟩ => ⟨S1x1x1, .i32⟩
  | .hbm, ⟨19, _⟩ => ⟨S16384x50x1, .i32⟩
  | .hbm, ⟨20, _⟩ => ⟨S16384x50x1, .i1⟩
  | .hbm, ⟨21, _⟩ => ⟨S16384x50x1, .i1⟩
  | .hbm, ⟨22, _⟩ => ⟨S_, .i1⟩
  | .hbm, ⟨23, _⟩ => ⟨S16384x50, .i1⟩
  | .hbm, ⟨24, _⟩ => ⟨S16384x50x32, .f32⟩
  | .hbm, ⟨25, _⟩ => ⟨S16384x50x32, .i1⟩
  | .hbm, ⟨26, _⟩ => ⟨S_, .f32⟩
  | .hbm, ⟨27, _⟩ => ⟨S16384x50x32, .f32⟩
  | .hbm, ⟨28, _⟩ => ⟨S16384x50x32, .f32⟩
  | .hbm, ⟨29, _⟩ => ⟨S16384x1600, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x10, .f32⟩
  | .hbm, ⟨38, _⟩ => ⟨S1x10, .f32⟩
  | .hbm, ⟨39, _⟩ => ⟨S16384x10, .f32⟩
  | .hbm, ⟨40, _⟩ => ⟨S16384x10, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x10, .f32⟩
  | .hbm, ⟨48, _⟩ => ⟨S16384x10, .f32⟩
  | .hbm, ⟨49, _⟩ => ⟨S16384x10, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x10, .f32⟩
  | .hbm, ⟨54, _⟩ => ⟨S16384x10, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Proof.Setup.lean ====
/-
  The kernel's program as the SparseCore launch theorem sees it, and the resource algebra of its proof: the handshakes'
  rounds, the four TensorCore pipelines' rounds, and the counters of the tiles' local transfers.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 4) (Elt F) ℕ UU ℕ

abbrev EH : Emb UH (MT nD τ sig (HIx 4) (Elt F) ℕ UU ℕ) := embL
/-- The pipelines' rounds, the middle component. -/
def EP : Emb UP (MT nD τ sig (HIx 4) (Elt F) ℕ UU ℕ) :=
  ((Emb.inl : Emb UP (UP × Counters)).trans (Emb.inr : Emb (UP × Counters) UU)).trans
    (uEmb (nD := nD) (τ := τ) (sig := sig) (Ix := HIx 4) (Val := Elt F) (Name := ℕ) (U := UU) (Lvl := ℕ)).toEmb
instance EP_landsIn : (EP : Emb UP 𝕄).LandsIn (upEmb : UEmb _ 𝕄) := by unfold EP; infer_instance

end Cert.Proof.Lookup

end
-- ==== Proof.Piece.lean ====
/-
  What one gather of 2560 half rows leaves, read at an index: the half row its list word names. Stated once for every
  tile and every chunk of its list.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Rounds

variable {F : FTy → Type} [FloatOps F]

local notation "𝕄" => MT nD τ sig (HIx 4) (Elt F) ℕ UU ℕ

/-! ## Offsets -/

theorem off1_eq (i : grid0.Coords) : k0_off1 i = ![((i 1).val * 2 + (i 0).val) * 12800] := by
  have h0 : (i 0).val < 2 := (i 0).isLt
  have h1 : (i 1).val < 16 := (i 1).isLt
  unfold k0_off1
  simp only [Scalar.muli, Scalar.addi, IntOp.muli, IntOp.addi]
  congr 1
  simp only [BitVec.toNat_mul, BitVec.toNat_add, BitVec.toNat_ofNat]
  omega

theorem off2_eq (i : grid0.Coords) (n : ℕ) (hn : n ≤ 10240) :
    k0_off2 i (BitVec.ofNat 32 n) = ![((i 1).val * 2 + (i 0).val) * 12800 + n, 0] := by
  have h0 : (i 0).val < 2 := (i 0).isLt
  have h1 : (i 1).val < 16 := (i 1).isLt
  unfold k0_off2
  simp only [Scalar.muli, Scalar.addi, IntOp.muli, IntOp.addi]
  congr 1
  simp only [BitVec.toNat_mul, BitVec.toNat_add, BitVec.toNat_ofNat]
  omega

/-! ## The gathered contents -/

/-- Row `r` of the result is the table's row named by word `r` of the list. -/
def gath (tb : S2000x16.Idx → Elt F .f32) (ls : S409600.Idx → BitVec 32) : S409600x16.Idx → Elt F .f32 := fun y =>
  tb fun
    | 0 => (⟨(ls fun | 0 => (⟨(y 0).val, (y 0).isLt⟩ : Fin 409600)).toNat % 2000, Nat.mod_lt _ (by decide)⟩ : Fin 2000)
    | 1 => (⟨(y 1).val, (y 1).isLt⟩ : Fin 16)

/-- Two contents a view reads alike agree on the view's own elements. -/
theorem agree_of_read {κ : Kind} {sp : Space} {s : Shape} {e : EltTy} (v : View sig κ sp s e) {A B : v.ty.Contents (Elt F)}
    (h : v.read (Elt F) A = v.read (Elt F) B) : ∀ j ∈ v.set, A j = B j := by
  intro j hj
  obtain ⟨x, -, rfl⟩ := Finset.mem_map.mp hj
  have := congrFun h x
  rw [View.read_apply, View.read_apply] at this
  exact (cast_bijective _).1 this

/-- What the last of a list of whole-view pieces left reads back. -/
theorem read_writes_head {κ : Kind} {sp : Space} {s : Shape} {e : EltTy} (v : View sig κ sp s e) (f : v.ty.Contents (Elt F))
    (x : s.Idx → Elt F e) (L : List (View.Piece (Elt F) s e)) :
    v.read (Elt F) (v.writes (Elt F) f (⟨Rect.whole s, x⟩ :: L)) = x := by
  funext y
  have h := View.read_writes_cons_emb v f (Rect.whole s) x L y
  rwa [Rect.emb_whole_apply] at h

section

variable (i : grid0.Coords)
variable (arg2 : Memref sig .scVector .hbm S2000x16 .f32) (arg3 : Memref sig .scVector .hbm S409600 .i32)
  (arg4 : Memref sig .scVector .hbm S409600x16 .f32) (arg5 : Memref sig .scVector .vmem S12800 .i32)

/-- The tile's part of the list, and its parts of the result, as the program slices them. -/
abbrev listK : Memref sig .scVector .hbm S12800 .i32 := arg3.slice (Rect.unit (s := S409600) (k0_off1 i) S12800.size (k0_off1_inb i)) (fun _ => rfl)
abbrev outK (c : BitVec 32) (h : ∀ a, (k0_off2 i c) a + S2560x16.size a ≤ S409600x16.size a) : Memref sig .scVector .hbm S2560x16 .f32 :=
  arg4.slice (Rect.unit (s := S409600x16) (k0_off2 i c) S2560x16.size h) (fun _ => rfl)

/-- A chunk of the result, read out of the gathered contents, is the payload of the chunk's gather. -/
theorem gath_chunk (n : ℕ) (hn : n ≤ 10240) (h4 : ∀ a, (k0_off2 i (BitVec.ofNat 32 n)) a + S2560x16.size a ≤ S409600x16.size a)
    (h5 : ∀ a, (![n] : Fin 1 → ℕ) a + S2560.size a ≤ S12800.size a)
    (h2 : ∀ a, (![0, 0] : Fin 2 → ℕ) a + S2000x16.size a ≤ S2000x16.size a)
    (ft : arg2.view.ty.Contents (Elt F)) (fl : arg3.view.ty.Contents (Elt F)) (G : arg4.view.ty.Contents (Elt F)) (g5 : arg5.view.ty.Contents (Elt F))
    (hG : arg4.view.read (Elt F) G = gath (arg2.view.read (Elt F) ft) (arg3.view.read (Elt F) fl))
    (h5r : arg5.view.read (Elt F) g5 = (listK i arg3).view.read (Elt F) fl)
    (hnum : S2560.numel = S2560x16.size gathers_S2000x16_S2560x16.axis')
    (hin : ∀ x, ((arg5.slice (Rect.unit (s := S12800) ![n] S2560.size h5) (fun _ => rfl)).view.read (Elt F) g5 x).toNat < S2000x16.size gathers_S2000x16_S2560x16.axis) :
    (outK i arg4 (BitVec.ofNat 32 n) h4).view.read (Elt F) G
      = SparseCore.gatherPayload gathers_S2000x16_S2560x16
          ((arg2.slice (Rect.unit (s := S2000x16) ![0, 0] S2000x16.size h2) (fun _ => rfl)).view.read (Elt F) ft)
          (SparseCore.rows ((arg5.slice (Rect.unit (s := S12800) ![n] S2560.size h5) (fun _ => rfl)).view.read (Elt F) g5) hnum hin) := by
  funext x
  have e1 : (outK i arg4 (BitVec.ofNat 32 n) h4).view.read (Elt F) G x
      = arg4.view.read (Elt F) G ((Rect.unit (s := S409600x16) (k0_off2 i (BitVec.ofNat 32 n)) S2560x16.size h4).emb x) := rfl
  rw [e1, hG]
  unfold SparseCore.gatherPayload gath
  show arg2.view.read (Elt F) ft _ = arg2.view.read (Elt F) ft ((Rect.unit (s := S2000x16) ![0, 0] S2000x16.size h2).emb _)
  congr 1
  funext a
  apply Fin.ext
  match a with
  | 0 =>
    show (arg3.view.read (Elt F) fl _).toNat % 2000
      = 0 + 1 * (gathers_S2000x16_S2560x16.idx (SparseCore.rows ((arg5.slice (Rect.unit (s := S12800) ![n] S2560.size h5) (fun _ => rfl)).view.read (Elt F) g5) hnum hin) x
          gathers_S2000x16_S2560x16.axis).val
    rw [Shape.Gathers.idx_axis]
    obtain ⟨k, hk⟩ : ∃ k : S2560.Idx, S2560.rowMajor.symm ((x gathers_S2000x16_S2560x16.axis').cast hnum.symm) = k := ⟨_, rfl⟩
    have hkv : (k 0).val = (x 0).val := by
      have := Shape.rowMajor_val_one (d := ![2560]) k
      rw [← this, ← hk]
      show (S2560.rowMajor (S2560.rowMajor.symm _)).val = _
      rw [Equiv.apply_symm_apply]; rfl
    have hb := hin k
    have e2 : (arg5.slice (Rect.unit (s := S12800) ![n] S2560.size h5) (fun _ => rfl)).view.read (Elt F) g5 k
        = arg3.view.read (Elt F) fl ((Rect.unit (s := S409600) (k0_off1 i) S12800.size (k0_off1_inb i)).emb ((Rect.unit (s := S12800) ![n] S2560.size h5).emb k)) := by
      show arg5.view.read (Elt F) g5 _ = _
      rw [h5r]; rfl
    rw [e2] at hb
    have hb' : (arg3.view.read (Elt F) fl ((Rect.unit (s := S409600) (k0_off1 i) S12800.size (k0_off1_inb i)).emb ((Rect.unit (s := S12800) ![n] S2560.size h5).emb k))).toNat < 2000 := hb
    have e3 : (fun | 0 => (⟨((Rect.unit (s := S409600x16) (k0_off2 i (BitVec.ofNat 32 n)) S2560x16.size h4).emb x 0).val,
          ((Rect.unit (s := S409600x16) (k0_off2 i (BitVec.ofNat 32 n)) S2560x16.size h4).emb x 0).isLt⟩ : Fin 409600) : S409600.Idx)
        = (Rect.unit (s := S409600) (k0_off1 i) S12800.size (k0_off1_inb i)).emb ((Rect.unit (s := S12800) ![n] S2560.size h5).emb k) := by
      funext b
      match b with
      | 0 =>
        apply Fin.ext
        show (k0_off2 i (BitVec.ofNat 32 n)) 0 + 1 * (x 0).val = (k0_off1 i) 0 + 1 * ((![n] : Fin 1 → ℕ) 0 + 1 * (k 0).val)
        rw [off1_eq, off2_eq i n hn, hkv]
        simp only [Matrix.cons_val_zero]
        omega
    have fin : (arg3.view.read (Elt F) fl ((Rect.unit (s := S409600) (k0_off1 i) S12800.size (k0_off1_inb i)).emb ((Rect.unit (s := S12800) ![n] S2560.size h5).emb k))).toNat % 2000
        = 0 + 1 * ((arg5.slice (Rect.unit (s := S12800) ![n] S2560.size h5) (fun _ => rfl)).view.read (Elt F) g5 k).toNat := by
      rw [e2, Nat.mod_eq_of_lt hb']; omega
    rw [← e3] at fin
    subst hk
    exact fin
  | 1 =>
    have hI := Shape.Gathers.idx_of_ne gathers_S2000x16_S2560x16
      (SparseCore.rows ((arg5.slice (Rect.unit (s := S12800) ![n] S2560.size h5) (fun _ => rfl)).view.read (Elt F) g5) hnum hin) x 1 (by decide)
    show (k0_off2 i (BitVec.ofNat 32 n)) 1 + 1 * (x 1).val = 0 + 1 * (gathers_S2000x16_S2560x16.idx _ x 1).val
    rw [hI]
    rw [off2_eq i n hn]; rfl

end

end Cert.Proof.Lookup

end
-- ==== Proof.Split.lean ====
/-
  How one call's operands are dealt to its 32 tiles: the table by shares, the list by blocks of 12800 words, the result by
  blocks of 2560 rows, five to a tile; and back.
-/
module

public import proofs.«01_k».proof.Proof.Piece
public import Idealize.ShloMosaic.Lib.ShareLeaves

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 4) (Elt F) ℕ UU ℕ

/-! ## The deal, over any locations -/

/-- The share of the table that tile `w` takes. -/
def tsh (w : ℕ) : PosShare TreeShare := if h : w < 2 ^ 5 then leaf 5 fullShare ⟨w, h⟩ else fullShare
/-- The list words of tile `w`. -/
def lset (w : ℕ) : Finset S409600.Idx := Finset.univ.filter fun y => (y 0).val / 12800 = w
/-- The result rows of chunk `n` of tile `w`. -/
def oset (w n : ℕ) : Finset S409600x16.Idx := Finset.univ.filter fun y => (y 0).val / 2560 = w * 5 + n

/-- What tile `w` holds of one call's operands. -/
def goP (ℓt ℓl ℓo : Loc nD τ sig) (ft : Buf (Elt F) ℓt) (fl : Buf (Elt F) ℓl) (fo : Buf (Elt F) ℓo)
    (Sl : ℕ → Finset (Idx ℓl)) (So : ℕ → ℕ → Finset (Idx ℓo)) (w : ℕ) : sProp 𝕄 :=
  iprop((ℓt ↦{(tsh w).left} ft) ∗ (ℓt ↦{(tsh w).right} ft) ∗ (ℓl ↦[Sl w]{fullShare} fl)
    ∗ (ℓo ↦[So w 0]{fullShare} fo) ∗ (ℓo ↦[So w 1]{fullShare} fo) ∗ (ℓo ↦[So w 2]{fullShare} fo) ∗ (ℓo ↦[So w 3]{fullShare} fo) ∗ (ℓo ↦[So w 4]{fullShare} fo))

instance goP_storable (ℓt ℓl ℓo : Loc nD τ sig) (ft : Buf (Elt F) ℓt) (fl : Buf (Elt F) ℓl) (fo : Buf (Elt F) ℓo)
    (Sl : ℕ → Finset (Idx ℓl)) (So : ℕ → ℕ → Finset (Idx ℓo)) (w : ℕ) :
    BI.Storable (upEmb : UEmb _ 𝕄) (goP (F := F) ℓt ℓl ℓo ft fl fo Sl So w) := by
  unfold goP; infer_instance

theorem bigSep_five {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The 32 tiles, core by core. -/
theorem bigSep_tiles {M : Type} [URA M] (Φ : ℕ → sProp M) :
    (bigSep Finset.univ fun w : Fin 32 => Φ w.val) = bigSep Finset.univ fun c : Fin 2 => bigSep Finset.univ fun j : Fin 16 => Φ (j.val * 2 + c.val) := by
  rw [bigSep_univ_equiv ((Equiv.prodComm (Fin 2) (Fin 16)).trans (finProdFinEquiv (m := 16) (n := 2))) (fun w : Fin 32 => Φ w.val), bigSep_univ_prod]
  refine bigSep_congr fun c _ => bigSep_congr fun j _ => congrArg Φ ?_
  show c.val + 2 * j.val = j.val * 2 + c.val
  omega

/-- One call's operands, whole, are its tiles' parts. -/
theorem whole_parts (ℓt ℓl ℓo : Loc nD τ sig) (ft : Buf (Elt F) ℓt) (fl : Buf (Elt F) ℓl) (fo : Buf (Elt F) ℓo)
    (Sl : ℕ → Finset (Idx ℓl)) (So : ℕ → ℕ → Finset (Idx ℓo))
    (hdl : ∀ w w' : Fin 32, w ≠ w' → Disjoint (Sl w) (Sl w')) (hcl : (Finset.univ : Finset (Fin 32)).biUnion (fun w => Sl w) = Finset.univ)
    (hdo : ∀ w w' : Fin 32 × Fin 5, w ≠ w' → Disjoint (So w.1 w.2) (So w'.1 w'.2))
    (hco : (Finset.univ : Finset (Fin 32 × Fin 5)).biUnion (fun w => So w.1 w.2) = Finset.univ) :
    iprop((ℓt ↦{fullShare} ft) ∗ (ℓl ↦{fullShare} fl) ∗ (ℓo ↦{fullShare} fo))
      = (bigSep Finset.univ fun c : Fin 2 => bigSep Finset.univ fun j : Fin 16 => goP (F := F) ℓt ℓl ℓo ft fl fo Sl So (j.val * 2 + c.val) : sProp 𝕄) := by
  rw [← bigSep_tiles (fun w => goP (F := F) ℓt ℓl ℓo ft fl fo Sl So w)]
  have ht : (ℓt ↦{fullShare} ft : sProp 𝕄) = bigSep Finset.univ fun w : Fin 32 => iprop((ℓt ↦{(tsh w.val).left} ft) ∗ (ℓt ↦{(tsh w.val).right} ft)) := by
    rw [pointsTo_leaves Finset.univ ft 5 fullShare]
    refine bigSep_congr fun w _ => ?_
    have hw : tsh w.val = leaf 5 fullShare w := by unfold tsh; rw [dif_pos w.isLt]
    rw [hw]
    exact BI.Entails.antisymm (pointsTo_share (PosShare.mem_left_op_right _)).1 (pointsTo_share (PosShare.mem_left_op_right _)).2
  have hl : (ℓl ↦{fullShare} fl : sProp 𝕄) = bigSep Finset.univ fun w : Fin 32 => (ℓl ↦[Sl w]{fullShare} fl) := by
    rw [← pointsTo_biUnion Finset.univ (ℓ := ℓl) (fun w : Fin 32 => Sl w) (fun w _ w' _ h => hdl w w' h), hcl]
  have ho : (ℓo ↦{fullShare} fo : sProp 𝕄) = bigSep Finset.univ fun w : Fin 32 =>
      iprop((ℓo ↦[So w 0]{fullShare} fo) ∗ (ℓo ↦[So w 1]{fullShare} fo) ∗ (ℓo ↦[So w 2]{fullShare} fo) ∗ (ℓo ↦[So w 3]{fullShare} fo) ∗ (ℓo ↦[So w 4]{fullShare} fo)) := by
    have e := pointsTo_biUnion (Val := Elt F) (Ix := HIx 4) (Name := ℕ) (U := UU) (Lvl := ℕ) (q := fullShare) (f := fo) Finset.univ (ℓ := ℓo)
      (fun w : Fin 32 × Fin 5 => So w.1 w.2) (fun w _ w' _ h => hdo w w' h)
    rw [hco, bigSep_univ_prod] at e
    rw [e]
    exact bigSep_congr fun w _ => bigSep_five fun n : Fin 5 => (ℓo ↦[So w n]{fullShare} fo : sProp 𝕄)
  rw [ht, hl, ho, ← bigSep_sep', ← bigSep_sep']
  refine bigSep_congr fun w _ => ?_
  unfold goP
  exact equiv_iff.mp ⟨BI.sep_assoc, BI.sep_assoc'⟩

/-! ## The blocks cover and do not meet -/

theorem lset_disjoint (w w' : Fin 32) (h : w ≠ w') : Disjoint (lset w) (lset w') := by
  rw [Finset.disjoint_left]
  intro y hy hy'
  simp only [lset, Finset.mem_filter] at hy hy'
  exact h (Fin.ext (hy.2.symm.trans hy'.2))

theorem lset_cover : (Finset.univ : Finset (Fin 32)).biUnion (fun w => lset w) = Finset.univ := by
  refine Finset.eq_univ_iff_forall.mpr fun y => ?_
  have hy : (y 0).val < 409600 := (y 0).isLt
  exact Finset.mem_biUnion.mpr ⟨⟨(y 0).val / 12800, by omega⟩, Finset.mem_univ _, Finset.mem_filter.mpr ⟨Finset.mem_univ _, rfl⟩⟩

theorem oset_disjoint (w w' : Fin 32 × Fin 5) (h : w ≠ w') : Disjoint (oset w.1 w.2) (oset w'.1 w'.2) := by
  rw [Finset.disjoint_left]
  intro y hy hy'
  simp only [oset, Finset.mem_filter] at hy hy'
  have e := hy.2.symm.trans hy'.2
  have h1 := w.2.isLt
  have h2 := w'.2.isLt
  exact h (Prod.ext (Fin.ext (by omega)) (Fin.ext (by omega)))

theorem oset_cover : (Finset.univ : Finset (Fin 32 × Fin 5)).biUnion (fun w => oset w.1 w.2) = Finset.univ := by
  refine Finset.eq_univ_iff_forall.mpr fun y => ?_
  have hy : (y 0).val < 409600 := (y 0).isLt
  refine Finset.mem_biUnion.mpr ⟨(⟨(y 0).val / 12800, by omega⟩, ⟨(y 0).val / 2560 % 5, by omega⟩), Finset.mem_univ _, Finset.mem_filter.mpr ⟨Finset.mem_univ _, ?_⟩⟩
  show (y 0).val / 2560 = (y 0).val / 12800 * 5 + (y 0).val / 2560 % 5
  omega

theorem mem_lset (i : grid0.Coords) (y : S409600.Idx) :
    y ∈ (Rect.unit (s := S409600) (k0_off1 i) S12800.size (k0_off1_inb i)).set ↔ y ∈ lset ((i 1).val * 2 + (i 0).val) := by
  rw [Rect.mem_set_unit, off1_eq, lset, Finset.mem_filter]
  constructor
  · intro h
    have h0 : ((i 1).val * 2 + (i 0).val) * 12800 ≤ (y 0).val ∧ (y 0).val < ((i 1).val * 2 + (i 0).val) * 12800 + 12800 := h 0
    exact ⟨Finset.mem_univ _, by omega⟩
  · rintro ⟨-, h⟩ a
    obtain rfl : a = 0 := Subsingleton.elim _ _
    show ((i 1).val * 2 + (i 0).val) * 12800 ≤ (y 0).val ∧ (y 0).val < ((i 1).val * 2 + (i 0).val) * 12800 + 12800
    omega

theorem mem_oset (i : grid0.Coords) (n : ℕ) (hn : n < 5) (h : ∀ a, (k0_off2 i (BitVec.ofNat 32 (2560 * n))) a + S2560x16.size a ≤ S409600x16.size a) (y : S409600x16.Idx) :
    y ∈ (Rect.unit (s := S409600x16) (k0_off2 i (BitVec.ofNat 32 (2560 * n))) S2560x16.size h).set ↔ y ∈ oset ((i 1).val * 2 + (i 0).val) n := by
  rw [Rect.mem_set_unit, off2_eq i (2560 * n) (by omega), oset, Finset.mem_filter]
  have hy1 : (y 1).val < 16 := (y 1).isLt
  constructor
  · intro h
    have h0 : ((i 1).val * 2 + (i 0).val) * 12800 + 2560 * n ≤ (y 0).val ∧ (y 0).val < ((i 1).val * 2 + (i 0).val) * 12800 + 2560 * n + 2560 := h 0
    exact ⟨Finset.mem_univ _, by omega⟩
  · rintro ⟨-, h⟩ a
    match a with
    | 0 =>
      show ((i 1).val * 2 + (i 0).val) * 12800 + 2560 * n ≤ (y 0).val ∧ (y 0).val < ((i 1).val * 2 + (i 0).val) * 12800 + 2560 * n + 2560
      omega
    | 1 =>
      show 0 ≤ (y 1).val ∧ (y 1).val < 0 + 16
      omega

end Cert.Proof.Lookup

end
-- ==== Proof.Tile.lean ====
/-
  One tile of the gather, once for the four SparseCore calls and at a symbolic pair of SparseCore and tile: the fetch of
  its 12800 list words, five indirect gathers of 2560 half rows into two row buffers by turns, and the five copies out.
-/
module

public import proofs.«01_k».proof.Proof.Piece

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## What the run meets, over any memrefs -/

section

variable (d : Dev nD) (i : grid0.Coords)

abbrev cV : Fin τ.nSC := (i 0).castLE hcore0
abbrev jV : Fin τ.nSub := (i 1).castLE hsub0
/-- The tile's thread. -/
abbrev tV : Thread nD τ := V d (cV i) (jV i)

variable (arg2 : Memref sig .scVector .hbm S2000x16 .f32) (arg3 : Memref sig .scVector .hbm S409600 .i32)
  (arg4 : Memref sig .scVector .hbm S409600x16 .f32) (arg5 : Memref sig .scVector .vmem S12800 .i32)

/-- The list as the tile fetched it: it reads as the tile's part of the whole list, so its words are in range. -/
theorem fetched (f5 : arg5.view.ty.Contents (Elt F)) (fl : arg3.view.ty.Contents (Elt F))
    (hin : ∀ x, (arg3.view.read (Elt F) fl x).toNat < 2000)
    (pay : S12800.Idx → Elt F .i32) :
    (arg5.view.loc (tV d i) ↦{fullShare} View.write (Elt F) arg5.view f5 pay Finset.univ : sProp 𝕄) ⊢ iprop(∃ g5 : Buf (Elt F) (arg5.view.loc (tV d i)),
      ⌜pay = ReadAs.same.apply ((listK i arg3).view.read (Elt F) fl) → arg5.view.read (Elt F) g5 = (listK i arg3).view.read (Elt F) fl
        ∧ ∀ (o : ℕ) (h : ∀ a, (![o] : Fin 1 → ℕ) a + S2560.size a ≤ S12800.size a) (x : S2560.Idx),
        ((arg5.slice (Rect.unit (s := S12800) ![o] S2560.size h) (fun _ => rfl)).view.read (Elt F) g5 x).toNat < S2000x16.size gathers_S2000x16_S2560x16.axis⌝
      ∗ arg5.view.loc (tV d i) ↦{fullShare} g5) := by
  iintro H
  iexists _
  isplitr
  · ipureintro
    intro hp
    have hread : arg5.view.read (Elt F) (View.write (Elt F) arg5.view f5 pay Finset.univ) = (listK i arg3).view.read (Elt F) fl := by
      rw [View.read_write_univ, hp]
    refine ⟨hread, ?_⟩
    intro o h x
    have := hin ((Rect.unit (s := S409600) (k0_off1 i) S12800.size (k0_off1_inb i)).emb ((Rect.unit (s := S12800) ![o] S2560.size h).emb x))
    show (arg5.view.read (Elt F) _ ((Rect.unit (s := S12800) ![o] S2560.size h).emb x)).toNat < _
    rw [hread]
    exact this
  · iexact H

end

/-! ## The tile -/

section Tile

variable (d : Dev nD) (i : grid0.Coords)

variable (arg2 : Memref sig .scVector .hbm S2000x16 .f32) (arg3 : Memref sig .scVector .hbm S409600 .i32)
  (arg4 : Memref sig .scVector .hbm S409600x16 .f32) (arg5 : Memref sig .scVector .vmem S12800 .i32)
  (arg6 arg7 : Memref sig .scVector .vmem S2560x16 .f32) (arg8 arg9 arg10 arg11 r0 : DmaSems sig S_)

/-- The tile's five parts of the result, all at the contents `g`. -/
def outParts (g : Buf (Elt F) (arg4.view.loc (tV d i))) : sProp 𝕄 := iprop(
((outK i arg4 0#32 (k0_off2_inb i 0)).view.loc (tV d i) ↦[(outK i arg4 0#32 (k0_off2_inb i 0)).view.set]{fullShare} g)
    ∗ ((outK i arg4 2560#32 (k0_off2_inb i 1)).view.loc (tV d i) ↦[(outK i arg4 2560#32 (k0_off2_inb i 1)).view.set]{fullShare} g)
    ∗ ((outK i arg4 5120#32 (k0_off2_inb i 2)).view.loc (tV d i) ↦[(outK i arg4 5120#32 (k0_off2_inb i 2)).view.set]{fullShare} g)
    ∗ ((outK i arg4 7680#32 (k0_off2_inb i 3)).view.loc (tV d i) ↦[(outK i arg4 7680#32 (k0_off2_inb i 3)).view.set]{fullShare} g)
    ∗ ((outK i arg4 10240#32 (k0_off2_inb i 4)).view.loc (tV d i) ↦[(outK i arg4 10240#32 (k0_off2_inb i 4)).view.set]{fullShare} g))

/-- The tile's semaphores, all at zero. -/
def tileSems : sProp 𝕄 := iprop(semVal (tV d i, .dma arg8.sem) 0 ∗ semVal (tV d i, .dma arg9.sem) 0 ∗ semVal (tV d i, .dma arg10.sem) 0
    ∗ semVal (tV d i, .dma arg11.sem) 0 ∗ semVal (tV d i, .dma r0.sem) 0)

/-- One tile's run: from two shares of the table, its part of the list, its parts of the result and its own buffers and
    semaphores, the parts of the result come back at the gathered contents `G`. -/
def TileRun : Prop :=
  ∀ (d : Dev nD) (i : grid0.Coords) (q₁ q₂ : PosShare TreeShare) (O : CellTallies nD τ sig (HIx 4)) (W : Waits sig (HIx 4))
    (ft : Buf (Elt F) (arg2.view.loc (tV d i))) (fl : Buf (Elt F) (arg3.view.loc (tV d i))) (fo : Buf (Elt F) (arg4.view.loc (tV d i)))
    (f5 : Buf (Elt F) (arg5.view.loc (tV d i))) (f6 : Buf (Elt F) (arg6.view.loc (tV d i))) (f7 : Buf (Elt F) (arg7.view.loc (tV d i)))
    (G : Buf (Elt F) (arg4.view.loc (tV d i)))
    (_ : arg4.view.read (Elt F) G = gath (arg2.view.read (Elt F) ft) (arg3.view.read (Elt F) fl))
    (_ : ∀ x, (arg3.view.read (Elt F) fl x).toNat < 2000)
    (h2 : arg2.IsWhole) (h3 : arg3.IsWhole) (h4 : arg4.IsWhole) (h5 : arg5.IsWhole) (h6 : arg6.IsWhole) (h7 : arg7.IsWhole),
    iprop((Transfers.MayWaits (tV d i) (default : HIx 4) O : sProp 𝕄)
        ∗ (arg2.view.loc (tV d i) ↦{q₁} ft) ∗ (arg2.view.loc (tV d i) ↦{q₂} ft)
        ∗ ((listK i arg3).view.loc (tV d i) ↦[(listK i arg3).view.set]{fullShare} fl)
        ∗ outParts d i arg4 fo
        ∗ (arg5.view.loc (tV d i) ↦{fullShare} f5) ∗ (arg6.view.loc (tV d i) ↦{fullShare} f6) ∗ (arg7.view.loc (tV d i) ↦{fullShare} f7)
        ∗ tileSems d i arg8 arg9 arg10 arg11 r0
        ∗ owes (tV d i) O W)
      ⊢ wp frame (wpE (defs₀ (F := F)) 𝒱₀ (tV d i) none) Set.univ
          (cc0_sc_gather i arg2 h2 arg3 h3 arg4 h4 arg5 h5 arg6 h6 arg7 h7 arg8 arg9 arg10 arg11 r0)
          fun _ => iprop((arg2.view.loc (tV d i) ↦{q₁} ft) ∗ (arg2.view.loc (tV d i) ↦{q₂} ft)
            ∗ ((listK i arg3).view.loc (tV d i) ↦[(listK i arg3).view.set]{fullShare} fl)
            ∗ outParts d i arg4 G
            ∗ (∃ f, arg5.view.loc (tV d i) ↦{fullShare} f) ∗ (∃ f, arg6.view.loc (tV d i) ↦{fullShare} f) ∗ (∃ f, arg7.view.loc (tV d i) ↦{fullShare} f)
            ∗ tileSems d i arg8 arg9 arg10 arg11 r0
            ∗ ∃ W', ⌜∀ p ∈ W', p ∈ W ∨ p.2 = none⌝ ∗ owes (tV d i) O W')

end Tile

set_option maxRecDepth 65536 in
set_option maxHeartbeats 8000000 in
/-- The four calls' tiles: one run, read at each call's own buffers. -/
theorem tile_run :
    TileRun (F := F) (Memref.whole main_v1_scv) (Memref.whole main_v14_scv) (Memref.whole main_v15_scv)
      (Memref.whole cc0_scratch0) (Memref.whole cc0_scratch1) (Memref.whole cc0_scratch2) cc0_scratch3 cc0_scratch4 cc0_scratch5 cc0_scratch6 cc0_scoped0
    ∧ TileRun (F := F) (Memref.whole main_v1_scv) (Memref.whole main_v18_scv) (Memref.whole main_v19_scv)
      (Memref.whole cc2_scratch0) (Memref.whole cc2_scratch1) (Memref.whole cc2_scratch2) cc2_scratch3 cc2_scratch4 cc2_scratch5 cc2_scratch6 cc2_scoped0
    ∧ TileRun (F := F) (Memref.whole main_v1_scv) (Memref.whole main_v22_scv) (Memref.whole main_v23_scv)
      (Memref.whole cc4_scratch0) (Memref.whole cc4_scratch1) (Memref.whole cc4_scratch2) cc4_scratch3 cc4_scratch4 cc4_scratch5 cc4_scratch6 cc4_scoped0
    ∧ TileRun (F := F) (Memref.whole main_v1_scv) (Memref.whole main_v26_scv) (Memref.whole main_v27_scv)
      (Memref.whole cc6_scratch0) (Memref.whole cc6_scratch1) (Memref.whole cc6_scratch2) cc6_scratch3 cc6_scratch4 cc6_scratch5 cc6_scratch6 cc6_scoped0 := by
  refine ⟨?_, ?_, ?_, ?_⟩ <;>
  · intro d i q₁ q₂ O W ft fl fo f5 f6 f7 G hG hin h2 h3 h4 h5 h6 h7
    unfold outParts tileSems
    rw [cc0_sc_gather_eq_skeleton]; unfold cc0_sc_gather_skel
    rw [k0_part1_eq_skeleton, k0_part2_eq_skeleton]; unfold k0_part1_skel k0_part2_skel
    iintro ⟨Hmw, Ht1, Ht2, Hl, ⟨Ho0, Ho1, Ho2, Ho3, Ho4⟩, H5, H6, H7, ⟨Hs8, Hs9, Hs10, Hs11, Hs0⟩, HO⟩
    sl_exec
    ihave H5 := (fetched (F := F) d i _ _ _ _ hin _) $$ H5
    icases H5 with ⟨%g5, %hfetch, H5⟩
    obtain ⟨hread, hlist⟩ := hfetch rfl
    sl_exec
    have hchunk := fun n hn h4 h5 h2 hi => gath_chunk i _ _ _ _ n hn h4 h5 h2 ft fl G g5 hG hread rfl hi
    sl_step
    ihave Ho0 := (Entails.of_eq (pointsTo_congr (agree_of_read _
      (((read_writes_head _ _ _ _).trans (read_writes_head _ _ _ _)).trans (hchunk 0 (by decide) (k0_off2_inb i 0) inb_S12800_S2560_0 inb_S2000x16_S2000x16_0_0 (hlist _ _)).symm)))) $$ Ho0
    ihave Ho1 := (Entails.of_eq (pointsTo_congr (agree_of_read _
      (((read_writes_head _ _ _ _).trans (read_writes_head _ _ _ _)).trans (hchunk 2560 (by decide) (k0_off2_inb i 1) inb_S12800_S2560_2560 inb_S2000x16_S2000x16_0_0 (hlist _ _)).symm)))) $$ Ho1
    ihave Ho2 := (Entails.of_eq (pointsTo_congr (agree_of_read _
      (((read_writes_head _ _ _ _).trans (read_writes_head _ _ _ _)).trans (hchunk 5120 (by decide) (k0_off2_inb i 2) inb_S12800_S2560_5120 inb_S2000x16_S2000x16_0_0 (hlist _ _)).symm)))) $$ Ho2
    ihave Ho3 := (Entails.of_eq (pointsTo_congr (agree_of_read _
      (((read_writes_head _ _ _ _).trans (read_writes_head _ _ _ _)).trans (hchunk 7680 (by decide) (k0_off2_inb i 3) inb_S12800_S2560_7680 inb_S2000x16_S2000x16_0_0 (hlist _ _)).symm)))) $$ Ho3
    ihave Ho4 := (Entails.of_eq (pointsTo_congr (agree_of_read _
      (((read_writes_head _ _ _ _).trans (read_writes_head _ _ _ _)).trans (hchunk 10240 (by decide) (k0_off2_inb i 4) inb_S12800_S2560_10240 inb_S2000x16_S2000x16_0_0 (hlist _ _)).symm)))) $$ Ho4
    isplitl [Ht1]; · iexact Ht1
    isplitl [Ht2]; · iexact Ht2
    isplitl [Hl]; · iexact Hl
    isplitl [Ho0 Ho1 Ho2 Ho3 Ho4]
    · isplitl [Ho0]; · iexact Ho0
      isplitl [Ho1]; · iexact Ho1
      isplitl [Ho2]; · iexact Ho2
      isplitl [Ho3]; · iexact Ho3
      iexact Ho4
    isplitl [H5]; · iexists _; iexact H5
    isplitl [H6]; · iexists _; iexact H6
    isplitl [H7]; · iexists _; iexact H7
    isplitl [Hs8 Hs9 Hs10 Hs11 Hs0]
    · isplitl [Hs8]; · iexact Hs8
      isplitl [Hs9]; · iexact Hs9
      isplitl [Hs10]; · iexact Hs10
      isplitl [Hs11]; · iexact Hs11
      iexact Hs0
    iexists _; isplitr
    swap; · iexact HO
    ipureintro; intro p hp
    repeat (rcases Finset.mem_insert.mp hp with hp | hp; · exact .inr (hp ▸ rfl))
    exact .inl hp

end Cert.Proof.Lookup

end
-- ==== Proof.Call.lean ====
/-
  What the four calls' handshakes carry, and the obligation of one call's tiles: each tile's run (`tile_run`) from its
  part of the call's operands and its own buffers and semaphores.
-/
module

public import proofs.«01_k».proof.Proof.Split
public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} [FloatOps F]

local notation "𝕄" => MT nD τ sig (HIx 4) (Elt F) ℕ UU ℕ

/-! ## A tile's own buffers and semaphores -/

section Own

variable (d : Dev nD) (i : grid0.Coords)

theorem ownBufs3 (a b c : Ref sig .scVector) (hab : b ≠ a) (hac : c ≠ a) (hbc : c ≠ b)
    (ha : ((tV d i).2.devRef a).owner = .proc (tV d i).2) (hb : ((tV d i).2.devRef b).owner = .proc (tV d i).2) (hc : ((tV d i).2.devRef c).owner = .proc (tV d i).2) :
    (ownBufs (tV d i) : sProp 𝕄)
      = iprop((∃ f, (tV d i).loc a ↦{fullShare} f) ∗ (∃ f, (tV d i).loc b ↦{fullShare} f) ∗ (∃ f, (tV d i).loc c ↦{fullShare} f)
          ∗ bigSep ((((ownRefs (τ := τ) (sig := sig) (tV d i).2).erase ((tV d i).2.devRef a)).erase ((tV d i).2.devRef b)).erase ((tV d i).2.devRef c))
              fun b => iprop(∃ f, ((d, b) : Loc nD τ sig) ↦{fullShare} f)) := by
  unfold SparseCore.Cfg.ownBufs
  refine (SparseCore.bigSep_erase' (SparseCore.Cfg.mem_ownRefs_of_owner (b := (tV d i).2.devRef a) ha)).trans ?_
  rw [SparseCore.bigSep_erase' (Finset.mem_erase.mpr ⟨fun e => hab (Proc.devRef_injective _ e), SparseCore.Cfg.mem_ownRefs_of_owner (b := (tV d i).2.devRef b) hb⟩),
    SparseCore.bigSep_erase' (Finset.mem_erase.mpr ⟨fun e => hbc (Proc.devRef_injective _ e), Finset.mem_erase.mpr ⟨fun e => hac (Proc.devRef_injective _ e),
      SparseCore.Cfg.mem_ownRefs_of_owner (b := (tV d i).2.devRef c) hc⟩⟩)]

theorem ownSems5 (a b c e r : DmaSems sig S_) (hn : [(SemLoc.dma a.sem : SemLoc sig), .dma b.sem, .dma c.sem, .dma e.sem, .dma r.sem].Nodup)
    (hs : ∀ g ∈ [(SemLoc.dma a.sem : SemLoc sig), .dma b.sem, .dma c.sem, .dma e.sem, .dma r.sem], g.isScoped .scVector = true) :
    ∃ R : sProp 𝕄, (ownSems0 (tV d i) : sProp 𝕄) = iprop(tileSems d i a b c e r ∗ R) := by
  have hm : ∀ g : SemLoc sig, g ∈ [(SemLoc.dma a.sem : SemLoc sig), .dma b.sem, .dma c.sem, .dma e.sem, .dma r.sem] → ((tV d i, g) : GSem nD τ sig) ∈ ownCells (tV d i) :=
    fun g hg => SparseCore.Cfg.mem_ownCells.mpr ⟨rfl, hs g hg⟩
  have hne : ∀ g g' : SemLoc sig, g ≠ g' → ((tV d i, g) : GSem nD τ sig) ≠ (tV d i, g') := fun g g' h e => h (congrArg Prod.snd e)
  simp only [List.nodup_cons, List.mem_cons, List.not_mem_nil, or_false, not_or, List.nodup_nil, and_true, not_false_eq_true] at hn
  obtain ⟨⟨h1, h2, h3, h4⟩, ⟨h5, h6, h7⟩, ⟨h8, h9⟩, h10⟩ := hn
  refine ⟨bigSep ((((((ownCells (tV d i)).erase (tV d i, .dma a.sem)).erase (tV d i, .dma b.sem)).erase (tV d i, .dma c.sem)).erase (tV d i, .dma e.sem)).erase (tV d i, .dma r.sem))
    fun g => semVal g 0, ?_⟩
  unfold SparseCore.Cfg.ownSems0 tileSems
  rw [SparseCore.bigSep_erase' (hm (.dma a.sem) (by simp)),
    SparseCore.bigSep_erase' (Finset.mem_erase.mpr ⟨hne _ _ (Ne.symm h1), hm (.dma b.sem) (by simp)⟩),
    SparseCore.bigSep_erase' (Finset.mem_erase.mpr ⟨hne _ _ (Ne.symm h5), Finset.mem_erase.mpr ⟨hne _ _ (Ne.symm h2), hm (.dma c.sem) (by simp)⟩⟩),
    SparseCore.bigSep_erase' (Finset.mem_erase.mpr ⟨hne _ _ (Ne.symm h8), Finset.mem_erase.mpr ⟨hne _ _ (Ne.symm h6), Finset.mem_erase.mpr ⟨hne _ _ (Ne.symm h3), hm (.dma e.sem) (by simp)⟩⟩⟩),
    SparseCore.bigSep_erase' (Finset.mem_erase.mpr ⟨hne _ _ (Ne.symm h10), Finset.mem_erase.mpr ⟨hne _ _ (Ne.symm h9), Finset.mem_erase.mpr ⟨hne _ _ (Ne.symm h7),
      Finset.mem_erase.mpr ⟨hne _ _ (Ne.symm h4), hm (.dma r.sem) (by simp)⟩⟩⟩⟩)]
  refine equiv_iff.mp ⟨?_, ?_⟩
  · show (_ : sProp 𝕄) ⊢ _
    iintro ⟨H1, H2, H3, H4, H5, HR⟩
    isplitr [HR]
    · isplitl [H1]; · iexact H1
      isplitl [H2]; · iexact H2
      isplitl [H3]; · iexact H3
      isplitl [H4]; · iexact H4
      iexact H5
    iexact HR
  · show (_ : sProp 𝕄) ⊢ _
    iintro ⟨⟨H1, H2, H3, H4, H5⟩, HR⟩
    isplitl [H1]; · iexact H1
    isplitl [H2]; · iexact H2
    isplitl [H3]; · iexact H3
    isplitl [H4]; · iexact H4
    isplitl [H5]; · iexact H5
    iexact HR

end Own

/-! ## The tile's body, at any call's buffers -/

section Tile

variable (arg2 : Memref sig .scVector .hbm S2000x16 .f32) (arg3 : Memref sig .scVector .hbm S409600 .i32)
  (arg4 : Memref sig .scVector .hbm S409600x16 .f32) (arg5 : Memref sig .scVector .vmem S12800 .i32)
  (arg6 arg7 : Memref sig .scVector .vmem S2560x16 .f32) (arg8 arg9 arg10 arg11 r0 : DmaSems sig S_)

/-- From a call's parts for tile `w` and the tile's own resources to the parts at the gathered contents. -/
theorem tile_call (hrun : TileRun (F := F) arg2 arg3 arg4 arg5 arg6 arg7 arg8 arg9 arg10 arg11 r0)
    (h56 : arg6.view.ref ≠ arg5.view.ref) (h57 : arg7.view.ref ≠ arg5.view.ref) (h67 : arg7.view.ref ≠ arg6.view.ref)
    (hn : [(SemLoc.dma arg8.sem : SemLoc sig), .dma arg9.sem, .dma arg10.sem, .dma arg11.sem, .dma r0.sem].Nodup)
    (hs : ∀ g ∈ [(SemLoc.dma arg8.sem : SemLoc sig), .dma arg9.sem, .dma arg10.sem, .dma arg11.sem, .dma r0.sem], g.isScoped .scVector = true)
    (d : Dev nD) (i : grid0.Coords)
    (h5o : ((tV d i).2.devRef arg5.view.ref).owner = .proc (tV d i).2) (h6o : ((tV d i).2.devRef arg6.view.ref).owner = .proc (tV d i).2)
    (h7o : ((tV d i).2.devRef arg7.view.ref).owner = .proc (tV d i).2)
    (O : CellTallies nD τ sig (HIx 4)) (W : Waits sig (HIx 4)) (hO : ∀ g, O g none = 0) (q : Fin 4)
    (ft : Buf (Elt F) (arg2.view.loc (tV d i))) (fl : Buf (Elt F) (arg3.view.loc (tV d i))) (fo G : Buf (Elt F) (arg4.view.loc (tV d i)))
    (hG : arg4.view.read (Elt F) G = gath (arg2.view.read (Elt F) ft) (arg3.view.read (Elt F) fl))
    (hin : ∀ x, (arg3.view.read (Elt F) fl x).toNat < 2000)
    (Sl : ℕ → Finset (Idx (arg3.view.loc (tV d i)))) (So : ℕ → ℕ → Finset (Idx (arg4.view.loc (tV d i)))) (w : ℕ)
    (hSl : (listK i arg3).view.set = Sl w)
    (hS0 : (outK i arg4 0#32 (k0_off2_inb i 0)).view.set = So w 0) (hS1 : (outK i arg4 2560#32 (k0_off2_inb i 1)).view.set = So w 1)
    (hS2 : (outK i arg4 5120#32 (k0_off2_inb i 2)).view.set = So w 2) (hS3 : (outK i arg4 7680#32 (k0_off2_inb i 3)).view.set = So w 3)
    (hS4 : (outK i arg4 10240#32 (k0_off2_inb i 4)).view.set = So w 4)
    (h2 : arg2.IsWhole) (h3 : arg3.IsWhole) (h4 : arg4.IsWhole) (h5 : arg5.IsWhole) (h6 : arg6.IsWhole) (h7 : arg7.IsWhole) :
    iprop((levAts (K (F := F)).L (K (F := F)).lev : sProp 𝕄) ∗ emp
        ∗ goP (arg2.view.loc (tV d i)) (arg3.view.loc (tV d i)) (arg4.view.loc (tV d i)) ft fl fo Sl So w
        ∗ scopedBufs (tV d i) ∗ scopedSems0 (tV d i) ∗ owes (tV d i) O W)
      ⊢ wp frame (wpE (defs₀ (F := F)) 𝒱₀ (tV d i) none) Set.univ
          (cc0_sc_gather i arg2 h2 arg3 h3 arg4 h4 arg5 h5 arg6 h6 arg7 h7 arg8 arg9 arg10 arg11 r0)
          fun _ => iprop(goP (arg2.view.loc (tV d i)) (arg3.view.loc (tV d i)) (arg4.view.loc (tV d i)) ft fl G Sl So w
            ∗ scopedBufs (tV d i) ∗ scopedSems0 (tV d i) ∗ ∃ W', ⌜∀ p ∈ W', p ∈ W ∨ p.2 = none ∨ p.2 = some q⌝ ∗ owes (tV d i) O W') := by
  rw [(K (F := F)).scopedBufs_V facts d (cV i) (jV i), SparseCore.Cfg.scopedSems0_V (Val := Elt F) d (cV i) (jV i),
    ownBufs3 d i arg5.view.ref arg6.view.ref arg7.view.ref h56 h57 h67 h5o h6o h7o]
  obtain ⟨R, hR⟩ := ownSems5 (F := F) d i arg8 arg9 arg10 arg11 r0 hn hs
  rw [hR]
  unfold goP
  iintro ⟨#Hlv, -, ⟨Ht1, Ht2, Hl, Ho⟩, ⟨⟨%f5, H5⟩, ⟨%f6, H6⟩, ⟨%f7, H7⟩, Hbufs⟩, ⟨Hsem, HR⟩, HO⟩
  ihave Hmw := (show levAts (K (F := F)).L (K (F := F)).lev ⊢ Transfers.MayWaits (tV d i) (default : HIx 4) O from
    (K (F := F)).mayWaits_none (thr := tV d i) hO) $$ Hlv
  rw [← hSl, ← hS0, ← hS1, ← hS2, ← hS3, ← hS4]
  iapply (wp_wand frame (wpE (defs₀ (F := F)) 𝒱₀ (tV d i) none) Set.univ) $$ [Hmw Ht1 Ht2 Hl Ho H5 H6 H7 Hsem HO]
  · iapply (hrun d i (tsh w).left (tsh w).right O W ft fl fo f5 f6 f7 G hG hin h2 h3 h4 h5 h6 h7)
    isplitl [Hmw]; · iexact Hmw
    isplitl [Ht1]; · iexact Ht1
    isplitl [Ht2]; · iexact Ht2
    isplitl [Hl]; · iexact Hl
    isplitl [Ho]; · unfold outParts; iexact Ho
    isplitl [H5]; · iexact H5
    isplitl [H6]; · iexact H6
    isplitl [H7]; · iexact H7
    isplitl [Hsem]; · iexact Hsem
    iexact HO
  iintro %_ ⟨Ht1, Ht2, Hl, Ho, H5, H6, H7, Hsem, %W', %hW', HO⟩
  isplitl [Ht1 Ht2 Hl Ho]
  · isplitl [Ht1]; · iexact Ht1
    isplitl [Ht2]; · iexact Ht2
    isplitl [Hl]; · iexact Hl
    unfold outParts; iexact Ho
  isplitl [H5 H6 H7 Hbufs]
  · isplitl [H5]; · iexact H5
    isplitl [H6]; · iexact H6
    isplitl [H7]; · iexact H7
    iexact Hbufs
  isplitl [Hsem HR]
  · isplitl [Hsem]; · iexact Hsem
    iexact HR
  iexists W'; isplitr
  · ipureintro; exact fun p hp => (hW' p hp).imp_right Or.inl
  iexact HO

end Tile

/-! ## What the handshakes carry -/

/-- A buffer of @main, as the device's. -/
abbrev dv (r : Ref sig .tc) : DevRef τ sig := (Proc.tc : Proc τ).devRef r

/-- Tile `w`'s part of call `q`'s operands on device `d`: the table and the list at `V`'s contents, the result at `G`. -/
def part (V : Valuation τ sig (Elt F)) (G : S409600x16.Idx → Elt F .f32) (q : Fin 4) (d : Dev nD) (w : ℕ) : sProp 𝕄 :=
  match q with
  | 0 => goP ((SparseCore.T d).loc main_v1) ((SparseCore.T d).loc main_v14) ((SparseCore.T d).loc main_v15) (V (dv main_v1)) (V (dv main_v14)) G lset oset w
  | 1 => goP ((SparseCore.T d).loc main_v1) ((SparseCore.T d).loc main_v18) ((SparseCore.T d).loc main_v19) (V (dv main_v1)) (V (dv main_v18)) G lset oset w
  | 2 => goP ((SparseCore.T d).loc main_v1) ((SparseCore.T d).loc main_v22) ((SparseCore.T d).loc main_v23) (V (dv main_v1)) (V (dv main_v22)) G lset oset w
  | 3 => goP ((SparseCore.T d).loc main_v1) ((SparseCore.T d).loc main_v26) ((SparseCore.T d).loc main_v27) (V (dv main_v1)) (V (dv main_v26)) G lset oset w

/-- Call `q`'s list. -/
def lst (V : Valuation τ sig (Elt F)) (q : Fin 4) : S409600.Idx → BitVec 32 :=
  match q with | 0 => V (dv main_v14) | 1 => V (dv main_v18) | 2 => V (dv main_v22) | 3 => V (dv main_v26)
/-- Call `q`'s result as the call finds it. -/
def res (V : Valuation τ sig (Elt F)) (q : Fin 4) : S409600x16.Idx → Elt F .f32 :=
  match q with | 0 => V (dv main_v15) | 1 => V (dv main_v19) | 2 => V (dv main_v23) | 3 => V (dv main_v27)
/-- Call `q`'s result as the call leaves it. -/
def got (V : Valuation τ sig (Elt F)) (q : Fin 4) : S409600x16.Idx → Elt F .f32 := gath (V (dv main_v1)) (lst V q)

variable (VV : Fin 4 → Dev nD → Valuation τ sig (Elt F))

instance part_storable (V : Valuation τ sig (Elt F)) (G : S409600x16.Idx → Elt F .f32) (q : Fin 4) (d : Dev nD) (w : ℕ) :
    BI.Storable (upEmb : UEmb _ 𝕄) (part V G q d w) :=
  match q with
  | 0 => goP_storable _ _ _ _ _ _ _ _ _
  | 1 => goP_storable _ _ _ _ _ _ _ _ _
  | 2 => goP_storable _ _ _ _ _ _ _ _ _
  | 3 => goP_storable _ _ _ _ _ _ _ _ _

/-- Each call takes its operands dealt to its tiles and brings them back, the result at what the call gathers. -/
def P : (K (F := F)).Pay (nD := nD) (Val := Elt F) (Name := ℕ) (U := UU) where
  st := fun q d c => bigSep Finset.univ fun j : Fin ((K (F := F)).nSub q) => part (VV q d) (res (VV q d) q) q d (j.val * 2 + c.val)
  dn := fun q d c => bigSep Finset.univ fun j : Fin ((K (F := F)).nSub q) => part (VV q d) (got (VV q d) q) q d (j.val * 2 + c.val)
  go := fun q d c j => part (VV q d) (res (VV q d) q) q d (j.val * 2 + c.val)
  td := fun q d c j => part (VV q d) (got (VV q d) q) q d (j.val * 2 + c.val)
  x := fun _ _ => iprop(emp)

instance P_storable : (P VV).IsStorable where
  st q d c := (inferInstance : BI.Storable (upEmb : UEmb _ 𝕄)
    (bigSep Finset.univ fun j : Fin ((K (F := F)).nSub q) => part (VV q d) (res (VV q d) q) q d (j.val * 2 + c.val)))
  dn q d c := (inferInstance : BI.Storable (upEmb : UEmb _ 𝕄)
    (bigSep Finset.univ fun j : Fin ((K (F := F)).nSub q) => part (VV q d) (got (VV q d) q) q d (j.val * 2 + c.val)))
  go q d c j := (inferInstance : BI.Storable (upEmb : UEmb _ 𝕄) (part (VV q d) (res (VV q d) q) q d (j.val * 2 + c.val)))
  td q d c j := (inferInstance : BI.Storable (upEmb : UEmb _ 𝕄) (part (VV q d) (got (VV q d) q) q d (j.val * 2 + c.val)))

theorem vecSplit (q : Fin 4) : (K (F := F)).VecSplit' (P VV) q := by
  intro d c
  show (P VV).st q d c ⊢ |={Set.univ}=> iprop((P VV).st q d c ∗ ((P VV).dn q d c -∗ (P VV).dn q d c))
  iintro H; imodintro
  isplitl [H]; · iexact H
  iintro H; iexact H

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs_vector0 (c : Fin τ.nSC) (s : Fin τ.nSub) :
    defs₀ (F := F) (.scVector c s) 0 ()
      = SparseCore.onTile hcore0 hsub0 (fun c s => cc0_sc_gather (coordsV c s)
          (Memref.whole main_v1_scv) (Memref.isWhole_whole _) (Memref.whole main_v14_scv) (Memref.isWhole_whole _) (Memref.whole main_v15_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scoped0) ⟨⟩ c s := rfl
theorem defs_vector2 (c : Fin τ.nSC) (s : Fin τ.nSub) :
    defs₀ (F := F) (.scVector c s) 2 ()
      = SparseCore.onTile hcore0 hsub0 (fun c s => cc0_sc_gather (coordsV c s)
          (Memref.whole main_v1_scv) (Memref.isWhole_whole _) (Memref.whole main_v18_scv) (Memref.isWhole_whole _) (Memref.whole main_v19_scv) (Memref.isWhole_whole _)
          (Memref.whole cc2_scratch0) (Memref.isWhole_whole _) (Memref.whole cc2_scratch1) (Memref.isWhole_whole _) (Memref.whole cc2_scratch2) (Memref.isWhole_whole _)
          cc2_scratch3 cc2_scratch4 cc2_scratch5 cc2_scratch6 cc2_scoped0) ⟨⟩ c s := rfl
theorem defs_vector4 (c : Fin τ.nSC) (s : Fin τ.nSub) :
    defs₀ (F := F) (.scVector c s) 4 ()
      = SparseCore.onTile hcore0 hsub0 (fun c s => cc0_sc_gather (coordsV c s)
          (Memref.whole main_v1_scv) (Memref.isWhole_whole _) (Memref.whole main_v22_scv) (Memref.isWhole_whole _) (Memref.whole main_v23_scv) (Memref.isWhole_whole _)
          (Memref.whole cc4_scratch0) (Memref.isWhole_whole _) (Memref.whole cc4_scratch1) (Memref.isWhole_whole _) (Memref.whole cc4_scratch2) (Memref.isWhole_whole _)
          cc4_scratch3 cc4_scratch4 cc4_scratch5 cc4_scratch6 cc4_scoped0) ⟨⟩ c s := rfl
theorem defs_vector6 (c : Fin τ.nSC) (s : Fin τ.nSub) :
    defs₀ (F := F) (.scVector c s) 6 ()
      = SparseCore.onTile hcore0 hsub0 (fun c s => cc0_sc_gather (coordsV c s)
          (Memref.whole main_v1_scv) (Memref.isWhole_whole _) (Memref.whole main_v26_scv) (Memref.isWhole_whole _) (Memref.whole main_v27_scv) (Memref.isWhole_whole _)
          (Memref.whole cc6_scratch0) (Memref.isWhole_whole _) (Memref.whole cc6_scratch1) (Memref.isWhole_whole _) (Memref.whole cc6_scratch2) (Memref.isWhole_whole _)
          cc6_scratch3 cc6_scratch4 cc6_scratch5 cc6_scratch6 cc6_scoped0) ⟨⟩ c s := rfl

set_option maxRecDepth 16384 in
set_option maxHeartbeats 4000000 in
/-- Each call's tiles: the one run, at the call's buffers. -/
theorem tileObls (hlt : ∀ q d y, (lst (VV q d) q y).toNat < 2000) :
    (TileRun (F := F) (Memref.whole main_v1_scv) (Memref.whole main_v14_scv) (Memref.whole main_v15_scv)
      (Memref.whole cc0_scratch0) (Memref.whole cc0_scratch1) (Memref.whole cc0_scratch2) cc0_scratch3 cc0_scratch4 cc0_scratch5 cc0_scratch6 cc0_scoped0
      → (K (F := F)).TileObl (D (F := F)) 𝒱 (P VV) v₀ 0)
    ∧ (TileRun (F := F) (Memref.whole main_v1_scv) (Memref.whole main_v18_scv) (Memref.whole main_v19_scv)
      (Memref.whole cc2_scratch0) (Memref.whole cc2_scratch1) (Memref.whole cc2_scratch2) cc2_scratch3 cc2_scratch4 cc2_scratch5 cc2_scratch6 cc2_scoped0
      → (K (F := F)).TileObl (D (F := F)) 𝒱 (P VV) v₀ 1)
    ∧ (TileRun (F := F) (Memref.whole main_v1_scv) (Memref.whole main_v22_scv) (Memref.whole main_v23_scv)
      (Memref.whole cc4_scratch0) (Memref.whole cc4_scratch1) (Memref.whole cc4_scratch2) cc4_scratch3 cc4_scratch4 cc4_scratch5 cc4_scratch6 cc4_scoped0
      → (K (F := F)).TileObl (D (F := F)) 𝒱 (P VV) v₀ 2)
    ∧ (TileRun (F := F) (Memref.whole main_v1_scv) (Memref.whole main_v26_scv) (Memref.whole main_v27_scv)
      (Memref.whole cc6_scratch0) (Memref.whole cc6_scratch1) (Memref.whole cc6_scratch2) cc6_scratch3 cc6_scratch4 cc6_scratch5 cc6_scratch6 cc6_scoped0
      → (K (F := F)).TileObl (D (F := F)) 𝒱 (P VV) v₀ 3) := by
  refine ⟨?_, ?_, ?_, ?_⟩ <;>
  · intro hrun d c i O W hO _ _
    simp only [show (P VV).ox = fun _ _ => 0 from rfl, add_zero]
    have hc : c.val < grid0.bound 0 := c.isLt
    have hi : i.val < grid0.bound 1 := i.isLt
    refine BI.Entails.trans ?_ (Entails.of_eq (congrArg (fun e => wp _ _ _ e _) (Pipeline.defs_kernel pcfgs (defs₀ (F := F)) _ _ _).symm))
    refine BI.Entails.trans ?_ (Pipeline.wp_liftProg (D (F := F)) (Pipeline.defs_kernel pcfgs defs₀) 𝒱₀ _ Set.univ none _ _)
    first | rw [defs_vector0] | rw [defs_vector2] | rw [defs_vector4] | rw [defs_vector6]
    have hci : ((K (F := F)).core _ c).val < grid0.bound 0 ∧ ((K (F := F)).sub _ i).val < grid0.bound 1 := ⟨hc, hi⟩
    simp only [SparseCore.onTile, hci, _root_.and_self, ↓reduceDIte]
    refine tile_call (F := F) _ _ _ _ _ _ _ _ _ _ _ hrun (by decide) (by decide) (by decide) (by decide) (by decide) d (coordsV ⟨c.val, hc⟩ ⟨i.val, hi⟩) rfl rfl rfl
      O W hO _ _ _ _ (got (VV _ d) _) ?_ ?_ lset oset _ ?_ ?_ ?_ ?_ ?_ ?_ _ _ _ _ _ _
    · simp only [Memref.view_whole, View.read_whole]; rfl
    · simp only [Memref.view_whole, View.read_whole]; first | exact hlt 0 d | exact hlt 1 d | exact hlt 2 d | exact hlt 3 d
    · refine (View.set_slice_whole _ _).trans ?_
      ext y; exact mem_lset _ y
    · refine (View.set_slice_whole _ _).trans ?_
      ext y; exact mem_oset _ 0 (by decide) _ y
    · refine (View.set_slice_whole _ _).trans ?_
      ext y; exact mem_oset _ 1 (by decide) _ y
    · refine (View.set_slice_whole _ _).trans ?_
      ext y; exact mem_oset _ 2 (by decide) _ y
    · refine (View.set_slice_whole _ _).trans ?_
      ext y; exact mem_oset _ 3 (by decide) _ y
    · refine (View.set_slice_whole _ _).trans ?_
      ext y; exact mem_oset _ 4 (by decide) _ y

theorem tileObl (hlt : ∀ q d y, (lst (VV q d) q y).toNat < 2000) (q : Fin 4) : (K (F := F)).TileObl (D (F := F)) 𝒱 (P VV) v₀ q :=
  match q with
  | 0 => (tileObls VV hlt).1 (tile_run (F := F)).1
  | 1 => (tileObls VV hlt).2.1 (tile_run (F := F)).2.1
  | 2 => (tileObls VV hlt).2.2.1 (tile_run (F := F)).2.2.1
  | 3 => (tileObls VV hlt).2.2.2 (tile_run (F := F)).2.2.2

end Cert.Proof.Lookup

end
-- ==== Proof.Region.lean ====
module

public import proofs.«01_k».proof.Proof.Call
public import Idealize.ShloMosaic.Lib.VecWindow
public import Idealize.ShloMosaic.Lib.Pipeline.RegionsLoop

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## The body -/

/-- The dense body, whatever its six staging memrefs: it leaves the five operands as they were and the result at the
    layer's value of them. -/
theorem mlp_run (c : Dev nD) (i : grid1.Coords) (M1 : Memref sig .tc .vmem S1024x1600 .f32) (h1 : M1.IsWhole)
    (M2 : Memref sig .tc .vmem S1600x256 .bf16) (h2 : M2.IsWhole) (M3 : Memref sig .tc .vmem S1x256 .f32) (h3 : M3.IsWhole)
    (M4 : Memref sig .tc .vmem S256x10 .f32) (h4 : M4.IsWhole) (M5 : Memref sig .tc .vmem S1x10 .f32) (h5 : M5.IsWhole)
    (M6 : Memref sig .tc .vmem S1024x10 .f32) (h6 : M6.IsWhole)
    (x1 : S1024x1600.Idx → Elt F .f32) (x2 : S1600x256.Idx → Elt F .bf16) (x3 : S1x256.Idx → Elt F .f32)
    (x4 : S256x10.Idx → Elt F .f32) (x5 : S1x10.Idx → Elt F .f32) (x6 : S1024x10.Idx → Elt F .f32)
    (Q : PUnit → sProp 𝕄) :
    iprop(owns (T c) M1 fullShare x1 ∗ owns (T c) M2 fullShare x2 ∗ owns (T c) M3 fullShare x3 ∗ owns (T c) M4 fullShare x4
        ∗ owns (T c) M5 fullShare x5 ∗ owns (T c) M6 fullShare x6
        ∗ (iprop(owns (T c) M1 fullShare x1 ∗ owns (T c) M2 fullShare x2 ∗ owns (T c) M3 fullShare x3 ∗ owns (T c) M4 fullShare x4
          ∗ owns (T c) M5 fullShare x5 ∗ owns (T c) M6 fullShare (k1_pay1 x1 x2 x3 x4 x5)) -∗ Q ⟨⟩) : sProp 𝕄)
      ⊢ wp frame (wpE (defs₀ (F := F)) Variants.none (T c) none) Set.univ (cc1__mlp_body i M1 h1 M2 h2 M3 h3 M4 h4 M5 h5 M6 h6) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  subst e1 e2 e3 e4 e5 e6
  rw [cc1__mlp_body_eq_skeleton]
  sl_exec!
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro
  unfold mlp_run.sl.H6_1
  refine (View.read_writes_full M6.view _ inb_S1024x10_S1024x10_0_0 _ _).trans ?_
  rw [View.readAt_full M1.view f1 inb_S1024x1600_S1024x1600_0_0, View.readAt_full M2.view f2 inb_S1600x256_S1600x256_0_0,
    View.readAt_full M3.view f3 inb_S1x256_S1x256_0_0, View.readAt_full M4.view f4 inb_S256x10_S256x10_0_0,
    View.readAt_full M5.view f5 inb_S1x10_S1x10_0_0]

/-! ## The proof data of the four pipelines -/

variable (W : Dev nD → Valuation τ sig (Elt F))

/-- The block a window stages at a point, of its array at the entry valuation. -/
abbrev blkOf (p : Fin 4) (c : Dev nD) (w : Fin (cfgs p).W) (t : Fin (cfgs p).N) :
    (((cfgs p).win w).xblock ((cfgs p).grid.coords t)).Idx → Elt F ((cfgs p).win w).elt :=
  (((cfgs p).win w).blk t).view.read (Elt F) (W c (dv (Pipeline.arrRef (cfgs p).spec w)))

/-- What the body leaves in each staging buffer: the operands' blocks, and the layer's value of them. -/
def aft : (p : Fin 4) → (c : Dev nD) → (w : Fin (cfgs p).W) → (t : Fin (cfgs p).N) → ((cfgs p).win w).block.Idx → Elt F ((cfgs p).win w).elt
  | 0, c, w, t => match w with
    | 0 => blkOf W 0 c 0 t | 1 => blkOf W 0 c 1 t | 2 => blkOf W 0 c 2 t | 3 => blkOf W 0 c 3 t | 4 => blkOf W 0 c 4 t
    | 5 => k1_pay1 (blkOf W 0 c 0 t) (blkOf W 0 c 1 t) (blkOf W 0 c 2 t) (blkOf W 0 c 3 t) (blkOf W 0 c 4 t)
  | 1, c, w, t => match w with
    | 0 => blkOf W 1 c 0 t | 1 => blkOf W 1 c 1 t | 2 => blkOf W 1 c 2 t | 3 => blkOf W 1 c 3 t | 4 => blkOf W 1 c 4 t
    | 5 => k1_pay1 (blkOf W 1 c 0 t) (blkOf W 1 c 1 t) (blkOf W 1 c 2 t) (blkOf W 1 c 3 t) (blkOf W 1 c 4 t)
  | 2, c, w, t => match w with
    | 0 => blkOf W 2 c 0 t | 1 => blkOf W 2 c 1 t | 2 => blkOf W 2 c 2 t | 3 => blkOf W 2 c 3 t | 4 => blkOf W 2 c 4 t
    | 5 => k1_pay1 (blkOf W 2 c 0 t) (blkOf W 2 c 1 t) (blkOf W 2 c 2 t) (blkOf W 2 c 3 t) (blkOf W 2 c 4 t)
  | 3, c, w, t => match w with
    | 0 => blkOf W 3 c 0 t | 1 => blkOf W 3 c 1 t | 2 => blkOf W 3 c 2 t | 3 => blkOf W 3 c 3 t | 4 => blkOf W 3 c 4 t
    | 5 => k1_pay1 (blkOf W 3 c 0 t) (blkOf W 3 c 1 t) (blkOf W 3 c 2 t) (blkOf W 3 c 3 t) (blkOf W 3 c 4 t)

/-- The pairs the TensorCore may have recorded before pipeline `p`: all at or below the stage of the call before it. -/
def recs (p : Fin 4) (c : Dev nD) : Set (SemLoc sig × HIx 4) := {x | (K (F := F)).lev (T c, x.1) x.2 ≤ 8 * (p.val + 1)}

/-- The proof data of pipeline `p` entered from the valuation `W`: the later calls' start signals stay owed throughout. -/
def dat (p : Fin 4) (c : Dev nD) : Pipeline.Dat τ (Elt F) (HIx 4) ℕ UU ℕ (cfgs p) c where
  A w := W c (dv (Pipeline.arrRef (cfgs p).spec w))
  after w t := aft W p c w t
  Φ _ := Pipeline.scopedRest (cfgs p).spec c
  q _ := fullShare
  owed _ := (K (F := F)).Otc c (p.val + 1)
  recorded _ := recs (F := F) p c

/-- The body at one point, its operands' buffers found at their blocks. -/
theorem body_point (c : Dev nD) (i : grid1.Coords) (M1 : Memref sig .tc .vmem S1024x1600 .f32) (h1 : M1.IsWhole)
    (M2 : Memref sig .tc .vmem S1600x256 .bf16) (h2 : M2.IsWhole) (M3 : Memref sig .tc .vmem S1x256 .f32) (h3 : M3.IsWhole)
    (M4 : Memref sig .tc .vmem S256x10 .f32) (h4 : M4.IsWhole) (M5 : Memref sig .tc .vmem S1x10 .f32) (h5 : M5.IsWhole)
    (M6 : Memref sig .tc .vmem S1024x10 .f32) (h6 : M6.IsWhole) (A O : sProp 𝕄)
    (x1 : S1024x1600.Idx → Elt F .f32) (x2 : S1600x256.Idx → Elt F .bf16) (x3 : S1x256.Idx → Elt F .f32)
    (x4 : S256x10.Idx → Elt F .f32) (x5 : S1x10.Idx → Elt F .f32)
    (b1 : (S1024x1600.Idx → Elt F .f32) → S1024x1600.Idx → Elt F .f32) (b2 : (S1600x256.Idx → Elt F .bf16) → S1600x256.Idx → Elt F .bf16)
    (b3 : (S1x256.Idx → Elt F .f32) → S1x256.Idx → Elt F .f32) (b4 : (S256x10.Idx → Elt F .f32) → S256x10.Idx → Elt F .f32)
    (b5 : (S1x10.Idx → Elt F .f32) → S1x10.Idx → Elt F .f32) (b6 : (S1024x10.Idx → Elt F .f32) → S1024x10.Idx → Elt F .f32)
    (e1 : ∀ d, b1 d = x1) (e2 : ∀ d, b2 d = x2) (e3 : ∀ d, b3 d = x3) (e4 : ∀ d, b4 d = x4) (e5 : ∀ d, b5 d = x5) :
    iprop(A ∗ O ∗ (∃ d, owns (T c) M1 fullShare (b1 d)) ∗ (∃ d, owns (T c) M2 fullShare (b2 d)) ∗ (∃ d, owns (T c) M3 fullShare (b3 d))
        ∗ (∃ d, owns (T c) M4 fullShare (b4 d)) ∗ (∃ d, owns (T c) M5 fullShare (b5 d)) ∗ (∃ d, owns (T c) M6 fullShare (b6 d)) : sProp 𝕄)
      ⊢ wp frame (wpE (defs₀ (F := F)) Variants.none (T c) none) Set.univ (cc1__mlp_body i M1 h1 M2 h2 M3 h3 M4 h4 M5 h5 M6 h6)
        fun _ => iprop(A ∗ O ∗ owns (T c) M1 fullShare x1 ∗ owns (T c) M2 fullShare x2 ∗ owns (T c) M3 fullShare x3
          ∗ owns (T c) M4 fullShare x4 ∗ owns (T c) M5 fullShare x5 ∗ owns (T c) M6 fullShare (k1_pay1 x1 x2 x3 x4 x5)) := by
  simp only [e1, e2, e3, e4, e5]
  iintro ⟨HA, HO, ⟨%d1, H1⟩, ⟨%d2, H2⟩, ⟨%d3, H3⟩, ⟨%d4, H4⟩, ⟨%d5, H5⟩, ⟨%d6, H6⟩⟩
  iapply (mlp_run c i M1 h1 M2 h2 M3 h3 M4 h4 M5 h5 M6 h6 x1 x2 x3 x4 x5 (b6 d6) _)
  isplitl [H1]; · iexact H1
  isplitl [H2]; · iexact H2
  isplitl [H3]; · iexact H3
  isplitl [H4]; · iexact H4
  isplitl [H5]; · iexact H5
  isplitl [H6]; · iexact H6
  iintro H
  isplitl [HA]; · iexact HA
  isplitl [HO]; · iexact HO
  iexact H

theorem body_obl0 (c : Dev nD) : Pipeline.BodyObligation (dat W 0 c) (defs₀ (F := F)) 𝒱₀ (none : HIx 4) Set.univ := fun t => by
  rw [bigSep_W1, bigSep_W1]
  exact body_point c (cfg1.grid.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ _
    (blkOf W 0 c 0 t) (blkOf W 0 c 1 t) (blkOf W 0 c 2 t) (blkOf W 0 c 3 t) (blkOf W 0 c 4 t) _ _ _ _ _ ((dat W 0 c).before 5 t)
    ((dat W 0 c).before_in_eq_fetched 0 rfl (fun _ => rfl) (fun _ _ _ => rfl) (fun _ => rfl) t)
    ((dat W 0 c).before_in_eq_fetched 1 rfl (fun _ => rfl) (fun _ _ _ => rfl) (fun _ => rfl) t)
    ((dat W 0 c).before_in_eq_fetched 2 rfl (fun _ => rfl) (fun _ _ _ => rfl) (fun _ => rfl) t)
    ((dat W 0 c).before_in_eq_fetched 3 rfl (fun _ => rfl) (fun _ _ _ => rfl) (fun _ => rfl) t)
    ((dat W 0 c).before_in_eq_fetched 4 rfl (fun _ => rfl) (fun _ _ _ => rfl) (fun _ => rfl) t)

theorem body_obl1 (c : Dev nD) : Pipeline.BodyObligation (dat W 1 c) (defs₀ (F := F)) 𝒱₀ (none : HIx 4) Set.univ := fun t => by
  rw [bigSep_W3, bigSep_W3]
  exact body_point c (cfg3.grid.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ _
    (blkOf W 1 c 0 t) (blkOf W 1 c 1 t) (blkOf W 1 c 2 t) (blkOf W 1 c 3 t) (blkOf W 1 c 4 t) _ _ _ _ _ ((dat W 1 c).before 5 t)
    ((dat W 1 c).before_in_eq_fetched 0 rfl (fun _ => rfl) (fun _ _ _ => rfl) (fun _ => rfl) t)
    ((dat W 1 c).before_in_eq_fetched 1 rfl (fun _ => rfl) (fun _ _ _ => rfl) (fun _ => rfl) t)
    ((dat W 1 c).before_in_eq_fetched 2 rfl (fun _ => rfl) (fun _ _ _ => rfl) (fun _ => rfl) t)
    ((dat W 1 c).before_in_eq_fetched 3 rfl (fun _ => rfl) (fun _ _ _ => rfl) (fun _ => rfl) t)
    ((dat W 1 c).before_in_eq_fetched 4 rfl (fun _ => rfl) (fun _ _ _ => rfl) (fun _ => rfl) t)

theorem body_obl2 (c : Dev nD) : Pipeline.BodyObligation (dat W 2 c) (defs₀ (F := F)) 𝒱₀ (none : HIx 4) Set.univ := fun t => by
  rw [bigSep_W5, bigSep_W5]
  exact body_point c (cfg5.grid.coords t) _ (hstage5_0 ((cfg5.slots t 0).cast nbuf5_0)) _ (hstage5_1 ((cfg5.slots t 1).cast nbuf5_1)) _ (hstage5_2 ((cfg5.slots t 2).cast nbuf5_2)) _ (hstage5_3 ((cfg5.slots t 3).cast nbuf5_3)) _ (hstage5_4 ((cfg5.slots t 4).cast nbuf5_4)) _ (hstage5_5 ((cfg5.slots t 5).cast nbuf5_5)) _ _
    (blkOf W 2 c 0 t) (blkOf W 2 c 1 t) (blkOf W 2 c 2 t) (blkOf W 2 c 3 t) (blkOf W 2 c 4 t) _ _ _ _ _ ((dat W 2 c).before 5 t)
    ((dat W 2 c).before_in_eq_fetched 0 rfl (fun _ => rfl) (fun _ _ _ => rfl) (fun _ => rfl) t)
    ((dat W 2 c).before_in_eq_fetched 1 rfl (fun _ => rfl) (fun _ _ _ => rfl) (fun _ => rfl) t)
    ((dat W 2 c).before_in_eq_fetched 2 rfl (fun _ => rfl) (fun _ _ _ => rfl) (fun _ => rfl) t)
    ((dat W 2 c).before_in_eq_fetched 3 rfl (fun _ => rfl) (fun _ _ _ => rfl) (fun _ => rfl) t)
    ((dat W 2 c).before_in_eq_fetched 4 rfl (fun _ => rfl) (fun _ _ _ => rfl) (fun _ => rfl) t)

theorem body_obl3 (c : Dev nD) : Pipeline.BodyObligation (dat W 3 c) (defs₀ (F := F)) 𝒱₀ (none : HIx 4) Set.univ := fun t => by
  rw [bigSep_W7, bigSep_W7]
  exact body_point c (cfg7.grid.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) _ (hstage7_4 ((cfg7.slots t 4).cast nbuf7_4)) _ (hstage7_5 ((cfg7.slots t 5).cast nbuf7_5)) _ _
    (blkOf W 3 c 0 t) (blkOf W 3 c 1 t) (blkOf W 3 c 2 t) (blkOf W 3 c 3 t) (blkOf W 3 c 4 t) _ _ _ _ _ ((dat W 3 c).before 5 t)
    ((dat W 3 c).before_in_eq_fetched 0 rfl (fun _ => rfl) (fun _ _ _ => rfl) (fun _ => rfl) t)
    ((dat W 3 c).before_in_eq_fetched 1 rfl (fun _ => rfl) (fun _ _ _ => rfl) (fun _ => rfl) t)
    ((dat W 3 c).before_in_eq_fetched 2 rfl (fun _ => rfl) (fun _ _ _ => rfl) (fun _ => rfl) t)
    ((dat W 3 c).before_in_eq_fetched 3 rfl (fun _ => rfl) (fun _ _ _ => rfl) (fun _ => rfl) t)
    ((dat W 3 c).before_in_eq_fetched 4 rfl (fun _ => rfl) (fun _ _ _ => rfl) (fun _ => rfl) t)

/-! ## The regions -/

theorem launches : (p : Fin 4) → Pipeline.LaunchFacts (nD := nD) (τ := τ) cfgs p
  | 0 => launch1 | 1 => launch3 | 2 => launch5 | 3 => launch7

abbrev adm : (p : Fin 4) → (pcfgs (F := F) p).Adm := fun p => (cfgs p).toPCfg_adm

/-- The proof data as the library's record of them. -/
def pdats (p : Fin 4) (c : Dev nD) : Pipeline.Dat τ (Elt F) (HIx 4) ℕ UU ℕ (Pipeline.pin (pcfgs (F := F)) adm p) c := dat W p c

theorem body_obl : (p : Fin 4) → (c : Dev nD) → Pipeline.BodyObligation (dat W p c) (defs₀ (F := F)) 𝒱₀ (none : HIx 4) Set.univ
  | 0 => body_obl0 W | 1 => body_obl1 W | 2 => body_obl2 W | 3 => body_obl3 W

/-- The later calls' start signals are owed at their stages, never at the index the pipelines wait at. -/
theorem Otc_none (d : Dev nD) (n : ℕ) (g : GSem nD τ sig) : (K (F := F)).Otc (N := 4) d n g none = 0 := by
  by_contra h
  have h' := SparseCore.Cfg.lev_of_Otc_pos (K := K (F := F)) (Nat.pos_of_ne_zero h)
  rw [show (K (F := F)).lev g (none : HIx 4) = 0 from rfl] at h'
  omega

/-- What the TensorCore owes between call `p` and the next. -/
abbrev owing (p : Fin 4) (c : Dev nD) : sProp 𝕄 :=
  iprop(∃ X, ⌜(K (F := F)).WBelow (T c) X (8 * (p.val + 1))⌝ ∗ owes (T c) ((K (F := F)).Otc (N := 4) c (p.val + 1)) X)

variable (Wp : Dev nD → Valuation τ sig (Elt F))

set_option backward.isDefEq.respectTransparency.types false in
/-- Pipeline `p` from the valuation `W` to the valuation `Wp`. -/
def reg (p : Fin 4) (hfin : ∀ c w, (dat W p c).arrAt w (cfgs p).N = Wp c (dv (Pipeline.arrRef (cfgs p).spec w)))
    (hrest : ∀ c (b : Ref sig .tc), b ∉ Finset.univ.image (Pipeline.arrRef (cfgs p).spec) → Wp c (dv b) = W c (dv b)) :
    Pipeline.RegionSeg (pcfgs (F := F)) adm (pdats W) (none : HIx 4) defs₀ 𝒱₀ (K (F := F)).L (K (F := F)).lev p where
  win := (launches p).win.to₀
  block_pos := (launches p).block_pos
  stage_whole := (launches p).stage_whole
  K := PEmpty
  osem k := k.elim
  ho := Pipeline.OwnSemFacts.none _
  hbody c := (body_obl W p c).loose
  hwaits c := Pipeline.cellsWaits_intro _ _ _ p c fun _ _ _ => (K (F := F)).mayWait_none _ (Otc_none c _)
  pre c := iprop(unscopedBufs c (fun b => W c (dv b)) ∗ owing (F := F) p c)
  post c := iprop(unscopedBufs c (fun b => Wp c (dv b)) ∗ owing (F := F) p c)
  X _ := BI.emp
  Y _ := BI.emp
  Z c := Pipeline.unscopedRest (Ix := HIx 4) (Name := ℕ) (U := UU) (Lvl := ℕ) (cfgs p).spec c (fun b => W c (dv b))
  hentry c := by
    rw [Pipeline.ownSems0_none]
    have hsplit := Pipeline.arrays_of_unscopedBufs (p := p) (pcfgs (F := F)) adm (pdats W) (launches p).win (launches p).arr_whole c
      ((pdats W p c).share_full fun _ => rfl) (fun b => W c (dv b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, %hX, HO⟩; iexists X; isplitr; · ipureintro; exact fun x hx => Or.inl (hX x hx)
      iexact HO
    isplitr; · iempintro
    iexact Hrest
  hin c := by
    rw [show (pdats W p c).Φ 0 = Pipeline.scopedRest (cfgs p).spec c from rfl]
    iintro ⟨-, -, Hr⟩; iexact Hr
  hout c := by
    rw [Pipeline.ownSems0_none, show (pdats W p c).Φ (Fin.last _) = Pipeline.scopedRest (cfgs p).spec c from rfl]
    iintro Hr
    isplitr; · iempintro
    isplitr; · iempintro
    iexact Hr
  hexit c := by
    have hjoin := Pipeline.unscopedBufs_of_arrays (p := p) (pcfgs (F := F)) adm (Ix := HIx 4) (Name := ℕ) (U := UU) (Lvl := ℕ) (launches p).win
      (launches p).arr_whole c (pdats W) ((pdats W p c).share_full fun _ => rfl) (fun b => W c (dv b)) (fun b => Wp c (dv b))
      ((pdats W p c).arrAt · (cfgs p).N) (hfin c) (hrest c)
    iintro ⟨Ha, HO, -, Hrest⟩
    imodintro
    isplitl [Ha Hrest]
    · iapply hjoin; isplitl [Ha] <;> iassumption
    unfold Pipeline.Dat.owesAt Pipeline.owesWithin
    icases HO with ⟨%X, %hX, HO⟩; iexists X
    isplitr
    · ipureintro
      intro x hx
      rcases hX hx with h | ⟨w, s, h⟩
      · exact h
      · subst h; exact Nat.zero_le _
    iexact HO

end Cert.Proof.Lookup

end
-- ==== Proof.Phase.lean ====
module

public import proofs.«01_k».proof.Proof.Region

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

open Idealize.ShloMosaic.StableHlo (held held_sub_split held_congr wp_hlo_within)
open Idealize.ShloMosaic.Pipeline (ucRefs)

/-! ## One call of the gather out of the held buffers -/

theorem held_three (d : Dev nD) (a b c : DevRef τ sig) (hab : a ≠ b) (hac : a ≠ c) (hbc : b ≠ c) (V : Valuation τ sig (Elt F)) :
    (held (T d) {a, b, c} V : sProp 𝕄) = iprop((((d, a) : Loc nD τ sig) ↦{fullShare} V a) ∗ (((d, b) : Loc nD τ sig) ↦{fullShare} V b)
      ∗ (((d, c) : Loc nD τ sig) ↦{fullShare} V c)) := by
  unfold held
  rw [SparseCore.bigSep_insert' (by simp [hab, hac]), SparseCore.bigSep_insert' (by simp [hbc]), bigSep_singleton]

/-- Three buffers out of the held set, and back with the third at other contents. -/
theorem held_call (d : Dev nD) (a b c : Ref sig .tc) (hab : dv a ≠ dv b) (hac : dv a ≠ dv c) (hbc : dv b ≠ dv c)
    (hsub : ({dv a, dv b, dv c} : Finset (DevRef τ sig)) ⊆ ucRefs τ sig) (V : Valuation τ sig (Elt F)) (x : (dv c).ty.Contents (Elt F)) :
    (held (T d) (ucRefs τ sig) V : sProp 𝕄)
      ⊢ iprop((((SparseCore.T d).loc a ↦{fullShare} V (dv a)) ∗ ((SparseCore.T d).loc b ↦{fullShare} V (dv b)) ∗ ((SparseCore.T d).loc c ↦{fullShare} V (dv c)))
        ∗ ((((SparseCore.T d).loc a ↦{fullShare} V (dv a)) ∗ ((SparseCore.T d).loc b ↦{fullShare} V (dv b)) ∗ ((SparseCore.T d).loc c ↦{fullShare} x))
          -∗ held (T d) (ucRefs τ sig) (Function.update V (dv c) x))) := by
  rw [held_sub_split (T d) hsub V, held_sub_split (T d) hsub (Function.update V (dv c) x), held_three d _ _ _ hab hac hbc,
    held_three d _ _ _ hab hac hbc, Function.update_of_ne hac, Function.update_of_ne hbc, Function.update_self,
    held_congr (T d) (V := Function.update V (dv c) x) (V' := V) fun b hb => Function.update_of_ne
      (fun e => (Finset.mem_sdiff.mp hb).2 (e ▸ Finset.mem_insert_of_mem (Finset.mem_insert_of_mem (Finset.mem_singleton_self _)))) _ _]
  iintro ⟨H, Hr⟩
  isplitl [H]; · iexact H
  iintro H
  isplitl [H]; · iexact H
  iexact Hr

/-- The valuation after call `q`: its result at `x`. -/
def gUpd (q : Fin 4) (V : Valuation τ sig (Elt F)) (x : S409600x16.Idx → Elt F .f32) : Valuation τ sig (Elt F) :=
  match q with
  | 0 => Function.update V (dv main_v15) x
  | 1 => Function.update V (dv main_v19) x
  | 2 => Function.update V (dv main_v23) x
  | 3 => Function.update V (dv main_v27) x

/-- Call `q`'s table, list and result, whole. -/
def pts (V : Valuation τ sig (Elt F)) (G : S409600x16.Idx → Elt F .f32) (q : Fin 4) (d : Dev nD) : sProp 𝕄 :=
  match q with
  | 0 => iprop(((SparseCore.T d).loc main_v1 ↦{fullShare} V (dv main_v1)) ∗ ((SparseCore.T d).loc main_v14 ↦{fullShare} V (dv main_v14)) ∗ ((SparseCore.T d).loc main_v15 ↦{fullShare} G))
  | 1 => iprop(((SparseCore.T d).loc main_v1 ↦{fullShare} V (dv main_v1)) ∗ ((SparseCore.T d).loc main_v18 ↦{fullShare} V (dv main_v18)) ∗ ((SparseCore.T d).loc main_v19 ↦{fullShare} G))
  | 2 => iprop(((SparseCore.T d).loc main_v1 ↦{fullShare} V (dv main_v1)) ∗ ((SparseCore.T d).loc main_v22 ↦{fullShare} V (dv main_v22)) ∗ ((SparseCore.T d).loc main_v23 ↦{fullShare} G))
  | 3 => iprop(((SparseCore.T d).loc main_v1 ↦{fullShare} V (dv main_v1)) ∗ ((SparseCore.T d).loc main_v26 ↦{fullShare} V (dv main_v26)) ∗ ((SparseCore.T d).loc main_v27 ↦{fullShare} G))

theorem pts_parts (V : Valuation τ sig (Elt F)) (G : S409600x16.Idx → Elt F .f32) (q : Fin 4) (d : Dev nD) :
    pts V G q d = bigSep Finset.univ fun c : Fin ((K (F := F)).nCore q) => bigSep Finset.univ fun j : Fin ((K (F := F)).nSub q) =>
      part V G q d (j.val * 2 + c.val) :=
  match q with
  | 0 => whole_parts ((SparseCore.T d).loc main_v1) ((SparseCore.T d).loc main_v14) ((SparseCore.T d).loc main_v15) (V (dv main_v1)) (V (dv main_v14)) G
      lset oset lset_disjoint lset_cover oset_disjoint oset_cover
  | 1 => whole_parts ((SparseCore.T d).loc main_v1) ((SparseCore.T d).loc main_v18) ((SparseCore.T d).loc main_v19) (V (dv main_v1)) (V (dv main_v18)) G
      lset oset lset_disjoint lset_cover oset_disjoint oset_cover
  | 2 => whole_parts ((SparseCore.T d).loc main_v1) ((SparseCore.T d).loc main_v22) ((SparseCore.T d).loc main_v23) (V (dv main_v1)) (V (dv main_v22)) G
      lset oset lset_disjoint lset_cover oset_disjoint oset_cover
  | 3 => whole_parts ((SparseCore.T d).loc main_v1) ((SparseCore.T d).loc main_v26) ((SparseCore.T d).loc main_v27) (V (dv main_v1)) (V (dv main_v26)) G
      lset oset lset_disjoint lset_cover oset_disjoint oset_cover

theorem pts_held (V : Valuation τ sig (Elt F)) (x : S409600x16.Idx → Elt F .f32) (q : Fin 4) (d : Dev nD) :
    (held (T d) (ucRefs τ sig) V : sProp 𝕄)
      ⊢ iprop(pts V (res V q) q d ∗ (pts V x q d -∗ held (T d) (ucRefs τ sig) (gUpd q V x))) :=
  match q with
  | 0 => held_call d main_v1 main_v14 main_v15 (by decide) (by decide) (by decide) (by decide) V x
  | 1 => held_call d main_v1 main_v18 main_v19 (by decide) (by decide) (by decide) (by decide) V x
  | 2 => held_call d main_v1 main_v22 main_v23 (by decide) (by decide) (by decide) (by decide) V x
  | 3 => held_call d main_v1 main_v26 main_v27 (by decide) (by decide) (by decide) (by decide) V x

variable (VV : Fin 4 → Dev nD → Valuation τ sig (Elt F))

theorem call_piece (q : Fin 4) (d : Dev nD) :
    (held (T d) (ucRefs τ sig) (VV q d) : sProp 𝕄)
      ⊢ iprop((bigSep Finset.univ fun c : Fin ((K (F := F)).nCore q) => (P VV).st q d c)
        ∗ ((bigSep Finset.univ fun c : Fin ((K (F := F)).nCore q) => (P VV).dn q d c)
          -∗ held (T d) (ucRefs τ sig) (gUpd q (VV q d) (got (VV q d) q)))) := by
  have h := pts_held (VV q d) (got (VV q d) q) q d
  rw [pts_parts, pts_parts] at h
  exact h

end Cert.Proof.Lookup

end
-- ==== Proof.Step.lean ====
module

public import proofs.«01_k».proof.Proof.Phase

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

open Idealize.ShloMosaic.StableHlo (held held_sub_split held_congr wp_hlo_within)
open Idealize.ShloMosaic.Pipeline (ucRefs)

open Idealize.ShloMosaic.StableHlo (held wp_hlo_within)
open Idealize.ShloMosaic.Pipeline (ucRefs)

/-! ## One host operation on the TensorCore -/

theorem op_step (d : Dev nD) (op : HloOp τ sig (Elt F)) (hS : op.bufs ⊆ StableHlo.tcRefs τ sig) (hf : op.fresh = ∅)
    (V : Valuation τ sig (Elt F)) (Q : PUnit → sProp 𝕄) :
    iprop(boundary (T d) ∗ held (T d) (ucRefs τ sig) V ∗ ((boundary (T d) ∗ held (T d) (ucRefs τ sig) (op.result V)) -∗ Q ⟨⟩))
      ⊢ wp frame (wpE ((K (F := F)).defs D) 𝒱 (T d) none) Set.univ (hlo rfl op (fun _ => .ret ⟨⟩)) Q := by
  iintro ⟨Hb, Hh, Hk⟩
  iapply (wp_hlo_within 𝒱 (T d) none Set.univ (op := op) (S := ucRefs τ sig) (Pipeline.sub_ucRefs op hS) (V := V) hf) $$ [Hb Hh]
  · isplitl [Hb] <;> iassumption
  iintro H
  rw [wp_ret]; imodintro
  iapply Hk; iexact H

/-! ## One region on the TensorCore -/

/-- The valuation after region `p`: its result at what its points wrote back. -/
def oUpd (p : Fin 4) (c : Dev nD) (V : Valuation τ sig (Elt F)) : Valuation τ sig (Elt F) :=
  match p with
  | 0 => Function.update V (dv main_v17) ((dat (fun _ => V) 0 c).arrAt 5 (cfgs 0).N)
  | 1 => Function.update V (dv main_v21) ((dat (fun _ => V) 1 c).arrAt 5 (cfgs 1).N)
  | 2 => Function.update V (dv main_v25) ((dat (fun _ => V) 2 c).arrAt 5 (cfgs 2).N)
  | 3 => Function.update V (dv main_v29) ((dat (fun _ => V) 3 c).arrAt 5 (cfgs 3).N)

theorem in_fin (p : Fin 4) (V : Valuation τ sig (Elt F)) (c : Dev nD) (a : Ref sig .tc) (x) (w)
    (hin : ((cfgs p).win w).isOut = false) (hne : Pipeline.arrRef (cfgs p).spec w ≠ a) :
    (dat (fun _ => V) p c).arrAt w (cfgs p).N = Function.update V (dv a) x (dv (Pipeline.arrRef (cfgs p).spec w)) :=
  (Pipeline.Dat.arrAt_in _ _ hin _).trans (Function.update_of_ne (StableHlo.devRef_ne_of_ne hne) _ _).symm

theorem oUpd_fin (p : Fin 4) (V : Valuation τ sig (Elt F)) (c : Dev nD) (w) :
    (dat (fun _ => V) p c).arrAt w (cfgs p).N = oUpd p c V (dv (Pipeline.arrRef (cfgs p).spec w)) :=
  match p with
  | 0 => match w with
    | 0 | 1 | 2 | 3 | 4 => in_fin 0 V c main_v17 _ _ rfl (by decide)
    | 5 => (Function.update_self (dv main_v17) ((dat (fun _ => V) 0 c).arrAt 5 (cfgs 0).N) V).symm
  | 1 => match w with
    | 0 | 1 | 2 | 3 | 4 => in_fin 1 V c main_v21 _ _ rfl (by decide)
    | 5 => (Function.update_self (dv main_v21) ((dat (fun _ => V) 1 c).arrAt 5 (cfgs 1).N) V).symm
  | 2 => match w with
    | 0 | 1 | 2 | 3 | 4 => in_fin 2 V c main_v25 _ _ rfl (by decide)
    | 5 => (Function.update_self (dv main_v25) ((dat (fun _ => V) 2 c).arrAt 5 (cfgs 2).N) V).symm
  | 3 => match w with
    | 0 | 1 | 2 | 3 | 4 => in_fin 3 V c main_v29 _ _ rfl (by decide)
    | 5 => (Function.update_self (dv main_v29) ((dat (fun _ => V) 3 c).arrAt 5 (cfgs 3).N) V).symm

theorem oUpd_rest (p : Fin 4) (V : Valuation τ sig (Elt F)) (c : Dev nD) (b : Ref sig .tc)
    (hb : b ∉ Finset.univ.image (Pipeline.arrRef (cfgs p).spec)) : oUpd p c V (dv b) = V (dv b) := by
  match p with
  | 0 | 1 | 2 | 3 =>
    refine Function.update_of_ne (fun e => hb ?_) _ _
    rw [Proc.devRef_injective _ e]
    exact Finset.mem_image_of_mem _ (Finset.mem_univ (5 : Fin 6))

theorem region_step (p : Fin 4) (d : Dev nD) (κ : GSem nD τ sig → ℕ) (PP) (V : Valuation τ sig (Elt F)) (Q : PUnit → sProp 𝕄) :
    iprop((K (F := F)).ctx EH PP κ ∗ (K (F := F)).tcSt EH d (p.val + 1) ∗ boundary (T d) ∗ held (T d) (ucRefs τ sig) V
        ∗ Pipeline.cellsGhost (Pipeline.pin (pcfgs (F := F)) adm) EP p d ∗ Pipeline.toksInit (Pipeline.pin (pcfgs (F := F)) adm) EP p d
        ∗ (((K (F := F)).tcSt EH d (p.val + 1) ∗ boundary (T d) ∗ held (T d) (ucRefs τ sig) (oUpd p d V)) -∗ Q ⟨⟩))
      ⊢ wp frame (wpE ((K (F := F)).defs D) 𝒱 (T d) none) Set.univ (Prog.lift (.customCall (SparseCore.inner (Pipeline.entry p)) ())) Q := by
  have hreg : iprop((iprop(boundary (T d) ∗ unscopedBufs d (fun b => oUpd p d V (dv b)) ∗ owing (F := F) p d)
            -∗ wp frame (wpE (D (F := F)) 𝒱 (T d) none) Set.univ (.ret PUnit.unit) Q)
        ∗ boundary (T d) ∗ (unscopedBufs d (fun b => V (dv b)) ∗ owing (F := F) p d) ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (T d) none) Set.univ (.op (.customCall (Pipeline.entry p) ()) .ret) Q :=
    Pipeline.RegionSeg.wp pcfgs adm (pdats (fun _ => V)) (none : HIx 4) cellOf_inj EP defs₀ 𝒱₀ (K (F := F)).L (K (F := F)).lev
      (reg (fun _ => V) (fun c => oUpd p c V) p (fun c w => oUpd_fin p V c w) (fun c b hb => oUpd_rest p V c b hb)) d none
      (fun _ h => nomatch h) .ret Q
  rw [Pipeline.unscopedBufs_held d V, Pipeline.unscopedBufs_held d (oUpd p d V)] at hreg
  iintro ⟨#Hctx, Hst, Hb, Hh, Hg, Ht, Hk⟩
  ihave #Hl := (SparseCore.Cfg.ctx_levAts κ) $$ Hctx
  unfold SparseCore.Cfg.tcSt
  icases Hst with ⟨Ho, Hst⟩
  iapply ((K (F := F)).wp_liftProg D 𝒱 (T d) Set.univ none (.op (.customCall (Pipeline.entry p) ()) .ret) Q)
  iapply hreg
  isplitl [Hst Hk]
  · iintro ⟨Hb, Hu, Ho⟩
    rw [wp_ret]; imodintro
    iapply Hk
    isplitl [Ho Hst]
    · isplitl [Ho]; · iexact Ho
      iexact Hst
    isplitl [Hb]; · iexact Hb
    iexact Hu
  isplitl [Hb]; · iexact Hb
  isplitl [Hh Ho]
  · isplitl [Hh]; · iexact Hh
    iexact Ho
  isplitr; · iexact Hl
  isplitl [Hg] <;> iassumption

/-! ## One of the four rounds of `@main` -/

variable (VV : Fin 4 → Dev nD → Valuation τ sig (Elt F))

/-- The slice of the index list, the gather, the reshape of what it fetched and the region over it. -/
theorem phase (q : Fin 4) (d : Dev nD) (κ : GSem nD τ sig → ℕ) (op1 op2 op3 : HloOp τ sig (Elt F))
    (h1 : op1.bufs ⊆ StableHlo.tcRefs τ sig) (f1 : op1.fresh = ∅) (h2 : op2.bufs ⊆ StableHlo.tcRefs τ sig) (f2 : op2.fresh = ∅)
    (h3 : op3.bufs ⊆ StableHlo.tcRefs τ sig) (f3 : op3.fresh = ∅) (V : Valuation τ sig (Elt F))
    (hVV : VV q d = op2.result (op1.result V)) (Q : PUnit → sProp 𝕄) :
    iprop((K (F := F)).ctx EH (P VV) κ ∗ (K (F := F)).tcSt EH d q.val ∗ boundary (T d) ∗ held (T d) (ucRefs τ sig) V
        ∗ Pipeline.cellsGhost (Pipeline.pin (pcfgs (F := F)) adm) EP q d ∗ Pipeline.toksInit (Pipeline.pin (pcfgs (F := F)) adm) EP q d
        ∗ (((K (F := F)).tcSt EH d (q.val + 1) ∗ boundary (T d)
            ∗ held (T d) (ucRefs τ sig) (oUpd q d (op3.result (gUpd q (VV q d) (got (VV q d) q))))) -∗ Q ⟨⟩))
      ⊢ wp frame (wpE ((K (F := F)).defs D) 𝒱 (T d) none) Set.univ (hlo rfl op1 (fun _ => .ret PUnit.unit)) fun _ =>
        wp frame (wpE ((K (F := F)).defs D) 𝒱 (T d) none) Set.univ (hlo rfl op2 (fun _ => .ret PUnit.unit)) fun _ =>
        wp frame (wpE ((K (F := F)).defs D) 𝒱 (T d) none) Set.univ ((K (F := F)).run d q) fun _ =>
        wp frame (wpE ((K (F := F)).defs D) 𝒱 (T d) none) Set.univ (hlo rfl op3 (fun _ => .ret PUnit.unit)) fun _ =>
        wp frame (wpE ((K (F := F)).defs D) 𝒱 (T d) none) Set.univ (Prog.lift (.customCall (SparseCore.inner (Pipeline.entry q)) ())) Q := by
  iintro ⟨#Hctx, Hst, Hb, Hh, Hg, Ht, Hk⟩
  iapply (op_step d op1 h1 f1 V) $$ [Hst Hb Hh Hg Ht Hk]
  isplitl [Hb]; · iexact Hb
  isplitl [Hh]; · iexact Hh
  iintro ⟨Hb, Hh⟩
  iapply (op_step d op2 h2 f2 _) $$ [Hst Hb Hh Hg Ht Hk]
  isplitl [Hb]; · iexact Hb
  isplitl [Hh]; · iexact Hh
  iintro ⟨Hb, Hh⟩
  rw [← hVV]
  ihave Hp := (call_piece VV q d) $$ Hh
  icases Hp with ⟨Hs, Hback⟩
  iapply ((K (F := F)).wp_run D 𝒱 (EH := EH) (P := P VV) κ d q) $$ [Hst Hb Hs Hback Hg Ht Hk]
  isplitr; · iexact Hctx
  isplitl [Hst]; · iexact Hst
  isplitl [Hs]; · iexact Hs
  iintro ⟨Hst, Hdn⟩
  ihave Hh := Hback $$ Hdn
  iapply (op_step d op3 h3 f3 _) $$ [Hst Hb Hh Hg Ht Hk]
  isplitl [Hb]; · iexact Hb
  isplitl [Hh]; · iexact Hh
  iintro ⟨Hb, Hh⟩
  iapply (region_step q d κ (P VV) _ Q)
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Proof.Lookup

end
-- ==== Proof.Main.lean ====
module

public import proofs.«01_k».proof.Proof.Step

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

open Idealize.ShloMosaic.StableHlo (held held_sub_split held_congr wp_hlo_within)
open Idealize.ShloMosaic.Pipeline (ucRefs)

open Idealize.ShloMosaic.StableHlo (held wp_hlo_within)
open Idealize.ShloMosaic.Pipeline (ucRefs)

/-! ## The operations of `@main` and what the buffers hold between them -/

/-- The operations before the first round. -/
abbrev preOps : List (HloOp τ sig (Elt F)) :=
  [StableHlo.reshape main_arg0 main_v0 (rfl : (.i32 : EltTy) = .i32) shapeCasts_S16384x50_S819200,
   StableHlo.reshape main_arg1 main_v1 (rfl : (.f32 : EltTy) = .f32) shapeCasts_S1000x32_S2000x16,
   StableHlo.unary main_v0 main_v2 (broadcastInDim S819200x1 ![0] bcast_S819200_S819200x1_0 : (⟨S819200, .i32⟩ : BufTy).Contents (Elt F) → (⟨S819200x1, .i32⟩ : BufTy).Contents (Elt F)),
   StableHlo.nullary main_c (constantI S_ 32 2#32),
   StableHlo.unary main_c main_v3 (broadcastInDim S819200x1 ![] bcast_S_S819200x1 : (⟨S_, .i32⟩ : BufTy).Contents (Elt F) → (⟨S819200x1, .i32⟩ : BufTy).Contents (Elt F)),
   StableHlo.binary main_v3 main_v2 main_v4 (muli : (⟨S819200x1, .i32⟩ : BufTy).Contents (Elt F) → (⟨S819200x1, .i32⟩ : BufTy).Contents (Elt F) → (⟨S819200x1, .i32⟩ : BufTy).Contents (Elt F)),
   StableHlo.nullary main_v5 (iotaInDim S2 32 0),
   StableHlo.unary main_v5 main_v6 (broadcastInDim S1x2 ![1] bcast_S2_S1x2_1 : (⟨S2, .i32⟩ : BufTy).Contents (Elt F) → (⟨S1x2, .i32⟩ : BufTy).Contents (Elt F)),
   StableHlo.unary main_v4 main_v7 (broadcastInDim S819200x2 ![0, 1] bcast_S819200x1_S819200x2_0_1 : (⟨S819200x1, .i32⟩ : BufTy).Contents (Elt F) → (⟨S819200x2, .i32⟩ : BufTy).Contents (Elt F)),
   StableHlo.unary main_v6 main_v8 (broadcastInDim S819200x2 ![0, 1] bcast_S1x2_S819200x2_0_1 : (⟨S1x2, .i32⟩ : BufTy).Contents (Elt F) → (⟨S819200x2, .i32⟩ : BufTy).Contents (Elt F)),
   StableHlo.binary main_v7 main_v8 main_v9 (addi : (⟨S819200x2, .i32⟩ : BufTy).Contents (Elt F) → (⟨S819200x2, .i32⟩ : BufTy).Contents (Elt F) → (⟨S819200x2, .i32⟩ : BufTy).Contents (Elt F)),
   StableHlo.reshape main_v9 main_v10 (rfl : (.i32 : EltTy) = .i32) shapeCasts_S819200x2_S1638400,
   StableHlo.unary main_arg2 main_v11 ((truncf .bf16 · bitsLt_bf16_f32) : (⟨S1600x256, .f32⟩ : BufTy).Contents (Elt F) → (⟨S1600x256, .bf16⟩ : BufTy).Contents (Elt F)),
   StableHlo.reshape main_arg3 main_v12 (rfl : (.f32 : EltTy) = .f32) shapeCasts_S256_S1x256,
   StableHlo.reshape main_arg5 main_v13 (rfl : (.f32 : EltTy) = .f32) shapeCasts_S10_S1x10]

/-- The position at which round `q`'s piece of the index list begins. -/
abbrev opC (q : Fin 4) : HloOp τ sig (Elt F) :=
  match q with
  | 0 => StableHlo.nullary main_c_0 (constantI S_ 32 0#32)
  | 1 => StableHlo.nullary main_c_1 (constantI S_ 32 409600#32)
  | 2 => StableHlo.nullary main_c_2 (constantI S_ 32 819200#32)
  | 3 => StableHlo.nullary main_c_3 (constantI S_ 32 1228800#32)

/-- Round `q`'s piece of the index list. -/
abbrev opS (q : Fin 4) : HloOp τ sig (Elt F) :=
  match q with
  | 0 => StableHlo.unaryIndexed main_v10 ![main_c_0] ⟨S_, .i32⟩ main_v14 ((fun x i => Host.dynamicSlice S409600 x (fun k => (i k (Shape.Idx.first h_S_)).toInt) sliceFits_S1638400_S409600) : (⟨S1638400, .i32⟩ : BufTy).Contents (Elt F) → (Fin 1 → (⟨S_, .i32⟩ : BufTy).Contents (Elt F)) → (⟨S409600, .i32⟩ : BufTy).Contents (Elt F))
  | 1 => StableHlo.unaryIndexed main_v10 ![main_c_1] ⟨S_, .i32⟩ main_v18 ((fun x i => Host.dynamicSlice S409600 x (fun k => (i k (Shape.Idx.first h_S_)).toInt) sliceFits_S1638400_S409600) : (⟨S1638400, .i32⟩ : BufTy).Contents (Elt F) → (Fin 1 → (⟨S_, .i32⟩ : BufTy).Contents (Elt F)) → (⟨S409600, .i32⟩ : BufTy).Contents (Elt F))
  | 2 => StableHlo.unaryIndexed main_v10 ![main_c_2] ⟨S_, .i32⟩ main_v22 ((fun x i => Host.dynamicSlice S409600 x (fun k => (i k (Shape.Idx.first h_S_)).toInt) sliceFits_S1638400_S409600) : (⟨S1638400, .i32⟩ : BufTy).Contents (Elt F) → (Fin 1 → (⟨S_, .i32⟩ : BufTy).Contents (Elt F)) → (⟨S409600, .i32⟩ : BufTy).Contents (Elt F))
  | 3 => StableHlo.unaryIndexed main_v10 ![main_c_3] ⟨S_, .i32⟩ main_v26 ((fun x i => Host.dynamicSlice S409600 x (fun k => (i k (Shape.Idx.first h_S_)).toInt) sliceFits_S1638400_S409600) : (⟨S1638400, .i32⟩ : BufTy).Contents (Elt F) → (Fin 1 → (⟨S_, .i32⟩ : BufTy).Contents (Elt F)) → (⟨S409600, .i32⟩ : BufTy).Contents (Elt F))

/-- What round `q` fetched, seen as rows of the first layer's input. -/
abbrev opR (q : Fin 4) : HloOp τ sig (Elt F) :=
  match q with
  | 0 => StableHlo.reshape main_v15 main_v16 (rfl : (.f32 : EltTy) = .f32) shapeCasts_S409600x16_S4096x1600
  | 1 => StableHlo.reshape main_v19 main_v20 (rfl : (.f32 : EltTy) = .f32) shapeCasts_S409600x16_S4096x1600
  | 2 => StableHlo.reshape main_v23 main_v24 (rfl : (.f32 : EltTy) = .f32) shapeCasts_S409600x16_S4096x1600
  | 3 => StableHlo.reshape main_v27 main_v28 (rfl : (.f32 : EltTy) = .f32) shapeCasts_S409600x16_S4096x1600

/-- The four results, one after another. -/
abbrev opN : HloOp τ sig (Elt F) := StableHlo.nary ![main_v17, main_v21, main_v25, main_v29] main_v30 (fun u => (concatenate S16384x10 0 [⟨S4096x10, (u 0 : (⟨S4096x10, .f32⟩ : BufTy).Contents (Elt F))⟩, ⟨S4096x10, (u 1 : (⟨S4096x10, .f32⟩ : BufTy).Contents (Elt F))⟩, ⟨S4096x10, (u 2 : (⟨S4096x10, .f32⟩ : BufTy).Contents (Elt F))⟩, ⟨S4096x10, (u 3 : (⟨S4096x10, .f32⟩ : BufTy).Contents (Elt F))⟩] concatenates_S4096x10_S4096x10_S4096x10_S4096x10_S16384x10_d0 : (⟨S16384x10, .f32⟩ : BufTy).Contents (Elt F)))

/-- What the buffers hold when round `q` starts its gather. -/
def mid (q : Fin 4) (V : Valuation τ sig (Elt F)) : Valuation τ sig (Elt F) := (opS q).result ((opC q).result V)
/-- What they hold after round `q`. -/
def post (q : Fin 4) (d : Dev nD) (V : Valuation τ sig (Elt F)) : Valuation τ sig (Elt F) :=
  oUpd q d ((opR q).result (gUpd q (mid q V) (got (mid q V) q)))

variable (m : (ℓ : Loc nD τ sig) → Buf (Elt F) ℓ) (ρ : Dev nD → PrngReg)

def v0 (d : Dev nD) : Valuation τ sig (Elt F) := fun b => m (d, b)
def st0 (d : Dev nD) : Valuation τ sig (Elt F) := StableHlo.after preOps (v0 m d)
def st1 (d : Dev nD) : Valuation τ sig (Elt F) := post 0 d (st0 m d)
def st2 (d : Dev nD) : Valuation τ sig (Elt F) := post 1 d (st1 m d)
def st3 (d : Dev nD) : Valuation τ sig (Elt F) := post 2 d (st2 m d)
def st4 (d : Dev nD) : Valuation τ sig (Elt F) := post 3 d (st3 m d)
def vfin (d : Dev nD) : Valuation τ sig (Elt F) := opN.result (st4 m d)

def stq (q : Fin 4) (d : Dev nD) : Valuation τ sig (Elt F) :=
  match q with | 0 => st0 m d | 1 => st1 m d | 2 => st2 m d | 3 => st3 m d
abbrev vv (q : Fin 4) (d : Dev nD) : Valuation τ sig (Elt F) := mid q (stq m q d)

theorem opC_sub (q : Fin 4) : (opC (F := F) q).bufs ⊆ StableHlo.tcRefs τ sig := by
  match q with | 0 | 1 | 2 | 3 => exact StableHlo.nullary_bufs_sub _ _ _
theorem opS_sub (q : Fin 4) : (opS (F := F) q).bufs ⊆ StableHlo.tcRefs τ sig := by
  match q with | 0 | 1 | 2 | 3 => exact StableHlo.unaryIndexed_bufs_sub _ _ _ _ _ _ _ _ _
theorem opR_sub (q : Fin 4) : (opR (F := F) q).bufs ⊆ StableHlo.tcRefs τ sig := by
  match q with | 0 | 1 | 2 | 3 => exact StableHlo.reshape_bufs_sub _ _ _ _ _ _
theorem opC_fresh (q : Fin 4) : (opC (F := F) q).fresh = ∅ := by
  match q with | 0 | 1 | 2 | 3 => rfl
theorem opS_fresh (q : Fin 4) : (opS (F := F) q).fresh = ∅ := by
  match q with | 0 | 1 | 2 | 3 => rfl
theorem opR_fresh (q : Fin 4) : (opR (F := F) q).fresh = ∅ := by
  match q with | 0 | 1 | 2 | 3 => rfl

theorem pre_sub : ∀ op ∈ preOps (F := F), op.bufs ⊆ StableHlo.tcRefs τ sig := by
  intro op h
  simp only [preOps, List.mem_cons, List.not_mem_nil, or_false] at h
  rcases h with h | h | h | h | h | h | h | h | h | h | h | h | h | h | h <;> subst h <;>
    (first | exact StableHlo.reshape_bufs_sub _ _ _ _ _ _ | exact StableHlo.unary_bufs_sub _ _ _ _ _ | exact StableHlo.nullary_bufs_sub _ _ _ | exact StableHlo.binary_bufs_sub _ _ _ _ _ _ _)
theorem pre_fresh : ∀ op ∈ preOps (F := F), op.fresh = ∅ := by
  intro op h
  simp only [preOps, List.mem_cons, List.not_mem_nil, or_false] at h
  rcases h with h | h | h | h | h | h | h | h | h | h | h | h | h | h | h <;> subst h <;> rfl

/-- Operations one after another, then `Q`. -/
def nest (d : Dev nD) : List (HloOp τ sig (Elt F)) → (PUnit → sProp 𝕄) → PUnit → sProp 𝕄
  | [], Q => Q
  | op :: ops, Q => fun _ => wp frame (wpE ((K (F := F)).defs D) 𝒱 (T d) none) Set.univ (hlo rfl op (fun _ => .ret PUnit.unit)) (nest d ops Q)

theorem nest_step (d : Dev nD) (Q : PUnit → sProp 𝕄) : ∀ (ops : List (HloOp τ sig (Elt F))) (_ : ∀ op ∈ ops, op.bufs ⊆ StableHlo.tcRefs τ sig)
    (_ : ∀ op ∈ ops, op.fresh = ∅) (V : Valuation τ sig (Elt F)),
    iprop(boundary (T d) ∗ held (T d) (ucRefs τ sig) V ∗ ((boundary (T d) ∗ held (T d) (ucRefs τ sig) (StableHlo.after ops V)) -∗ Q ⟨⟩))
      ⊢ nest d ops Q PUnit.unit
  | [], _, _, V => by
    show _ ⊢ Q PUnit.unit
    iintro ⟨Hb, Hh, Hk⟩
    iapply Hk
    isplitl [Hb]; · iexact Hb
    iexact Hh
  | op :: ops, hS, hf, V => by
    unfold nest
    iintro ⟨Hb, Hh, Hk⟩
    iapply (op_step d op (hS op List.mem_cons_self) (hf op List.mem_cons_self) V) $$ [Hb Hh Hk]
    isplitl [Hb]; · iexact Hb
    isplitl [Hh]; · iexact Hh
    iintro ⟨Hb, Hh⟩
    iapply (nest_step d Q ops (fun o ho => hS o (List.mem_cons_of_mem _ ho)) (fun o ho => hf o (List.mem_cons_of_mem _ ho)) (op.result V))
    isplitl [Hb]; · iexact Hb
    isplitl [Hh]; · iexact Hh
    iexact Hk

/-! ## The ghost state of the launch -/

abbrev cells0 := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (cells0 (F := F), 1))

/-- The pipelines' ghost state on one device. -/
def gh (d : Dev nD) : sProp 𝕄 :=
  bigSep Finset.univ fun p : Fin 4 => iprop(Pipeline.cellsGhost (Pipeline.pin (pcfgs (F := F)) adm) EP p d
    ∗ Pipeline.toksInit (Pipeline.pin (pcfgs (F := F)) adm) EP p d)

theorem ownU_split (a : UH) (b : UP) :
    (ownU ((a, (b, (1 : Counters))) : UU) : sProp 𝕄) ⊢ iprop(BI.own (EH a) ∗ BI.own (EP b)) := by
  unfold EP
  exact BI.own_op_elim ((uEmb (nD := nD) (τ := τ) (sig := sig) (Ix := HIx 4) (Val := Elt F) (Name := ℕ) (U := UU) (Lvl := ℕ)).toEmb.op_of_mem
    (Prod.mk_mem_op (URA.mem_op_one a) (URA.mem_one_op (b, (1 : Counters)))))

theorem hu₀ (VV : Fin 4 → Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => gh d)
        ∗ bigSep Finset.univ fun thr : Thread nD τ => bigSep Finset.univ fun q : Fin 4 => (P VV).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · unfold gh
    simp only [bigSep_sep']
    isplitl [Hc] <;> iassumption
  rw [show (bigSep Finset.univ fun thr : Thread nD τ => bigSep Finset.univ fun q : Fin 4 => (P (F := F) VV).x q thr) = (iprop(emp) : sProp 𝕄) from
    (bigSep_congr fun _ _ => bigSep_emp_const _).trans (bigSep_emp_const _)]
  iempintro

theorem gh_four (d : Dev nD) : (gh d : sProp 𝕄) = iprop(
      (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d)
    ∗ (Pipeline.cellsGhost (Pipeline.pin (pcfgs (F := F)) adm) EP 3 d ∗ Pipeline.toksInit (Pipeline.pin (pcfgs (F := F)) adm) EP 3 d)) := by
  unfold gh
  rw [show (Finset.univ : Finset (Fin 4)) = {0, 1, 2, 3} by decide, SparseCore.bigSep_insert' (by decide), SparseCore.bigSep_insert' (by decide),
    SparseCore.bigSep_insert' (by decide), bigSep_singleton]

/-! ## `@main` on the TensorCore -/

abbrev FIN (d : Dev nD) : sProp 𝕄 := held (T d) (ucRefs τ sig) (vfin m d)

theorem hmain (κ : GSem nD τ sig → ℕ) (d : Dev nD) :
    iprop((K (F := F)).ctx EH (P (vv m)) κ ∗ (K (F := F)).tcSt EH d 0 ∗ (K (F := F)).tcRes m ρ d ∗ gh d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  rw [gh_four, show unscopedBufs d (fun b => m ((SparseCore.T d).loc b)) = (held (T d) (ucRefs τ sig) (v0 m d) : sProp 𝕄) from
    Pipeline.unscopedBufs_held d (v0 m d)]
  simp only [main, wp_bind, wp_pure]
  refine BI.Entails.trans ?_ (nest_step d _ preOps pre_sub pre_fresh (v0 m d))
  show (_ : sProp 𝕄) ⊢ _
  iintro ⟨#Hctx, Hst, ⟨Hb, Hh, Hs, -⟩, ⟨Hc0, Ht0⟩, ⟨Hc1, Ht1⟩, ⟨Hc2, Ht2⟩, Hc3, Ht3⟩
  isplitl [Hb]; · iexact Hb
  isplitl [Hh]; · iexact Hh
  iintro ⟨Hb, Hh⟩
  iapply (phase (vv m) 0 d κ (opC 0) (opS 0) (opR 0) (opC_sub 0) (opC_fresh 0) (opS_sub 0) (opS_fresh 0) (opR_sub 0) (opR_fresh 0) (st0 m d) rfl)
  isplitr; · iexact Hctx
  isplitl [Hst]; · iexact Hst
  isplitl [Hb]; · iexact Hb
  isplitl [Hh]; · iexact Hh
  isplitl [Hc0]; · iexact Hc0
  isplitl [Ht0]; · iexact Ht0
  iintro ⟨Hst, Hb, Hh⟩
  iapply (phase (vv m) 1 d κ (opC 1) (opS 1) (opR 1) (opC_sub 1) (opC_fresh 1) (opS_sub 1) (opS_fresh 1) (opR_sub 1) (opR_fresh 1) (st1 m d) rfl)
  isplitr; · iexact Hctx
  isplitl [Hst]; · iexact Hst
  isplitl [Hb]; · iexact Hb
  isplitl [Hh]; · iexact Hh
  isplitl [Hc1]; · iexact Hc1
  isplitl [Ht1]; · iexact Ht1
  iintro ⟨Hst, Hb, Hh⟩
  iapply (phase (vv m) 2 d κ (opC 2) (opS 2) (opR 2) (opC_sub 2) (opC_fresh 2) (opS_sub 2) (opS_fresh 2) (opR_sub 2) (opR_fresh 2) (st2 m d) rfl)
  isplitr; · iexact Hctx
  isplitl [Hst]; · iexact Hst
  isplitl [Hb]; · iexact Hb
  isplitl [Hh]; · iexact Hh
  isplitl [Hc2]; · iexact Hc2
  isplitl [Ht2]; · iexact Ht2
  iintro ⟨Hst, Hb, Hh⟩
  iapply (phase (vv m) 3 d κ (opC 3) (opS 3) (opR 3) (opC_sub 3) (opC_fresh 3) (opS_sub 3) (opS_fresh 3) (opR_sub 3) (opR_fresh 3) (st3 m d) rfl)
  isplitr; · iexact Hctx
  isplitl [Hst]; · iexact Hst
  isplitl [Hb]; · iexact Hb
  isplitl [Hh]; · iexact Hh
  isplitl [Hc3]; · iexact Hc3
  isplitl [Ht3]; · iexact Ht3
  iintro ⟨Hst, Hb, Hh⟩
  iapply (op_step d opN (StableHlo.nary_bufs_sub _ _ _ _ _) rfl (st4 m d))
  isplitl [Hb]; · iexact Hb
  isplitl [Hh]; · iexact Hh
  iintro ⟨Hb, Hh⟩
  imodintro
  isplitl [Hst]; · iexact Hst
  isplitl [Hh]; · iexact Hh
  isplitl [Hb] <;> iassumption

def fq (d : Dev nD) (s' : Phys nD τ sig (Elt F)) : Prop := ∀ b ∈ ucRefs τ sig, s'.mem.mem (d, b) = vfin m d b

theorem held_agree (d : Dev nD) (s' : Phys nD τ sig (Elt F)) (V : Valuation τ sig (Elt F)) (b : DevRef τ sig) (hb : b ∈ ucRefs τ sig) :
    (iprop(held (T d) (ucRefs τ sig) V ∗ SI s') : sProp 𝕄) ⊢ ⌜s'.mem.mem (d, b) = V b⌝ := by
  rw [StableHlo.held_sub_split (T d) (Finset.singleton_subset_iff.mpr hb) V]
  unfold held
  rw [bigSep_singleton]
  iintro ⟨⟨H, -⟩, HSI⟩
  ihave H := (SI_pointsTo_agree (st := s') (ℓ := ((d, b) : Loc nD τ sig)) (I := Finset.univ) (q := fullShare) (f := V b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) :=
  (forall_intro fun b => (forall_intro fun hb => held_agree d s' (vfin m d) b hb).trans pure_forall.2).trans pure_forall.2

/-- Every run of the program ends with its buffers at `vfin` and every counter back at zero. -/
theorem run_main [∀ e, Nonempty (Elt F e)] (hlt : ∀ q d y, (lst (vv m q d) q y).toNat < 2000) :
    θ_run (Cert.KernelIdeal.defs (F := F)) (Cert.KernelIdeal.threads (F := F)) ⟨m, fun _ => 0, ρ⟩
      (fun r => (∀ d : Dev nD, ∀ b ∈ ucRefs τ sig, r.2.mem (d, b) = vfin m d b) ∧ r.2.sem = fun _ => 0) :=
  SparseCore.Cfg.θ_run_sc_quiescent (K := K (F := F)) (D := D (F := F)) (𝒱 := 𝒱) (EH := EH) (P := P (vv m)) (A := ∅) facts v₀
    (fun q hq => match q with | 0 | 1 | 2 | 3 => nomatch hq)
    (fun q _ => tileObl (vv m) hlt q)
    (fun q _ => SparseCore.Cfg.VecSplit.of_plain (vecSplit (vv m) q))
    m ρ main gh (FIN m) (u₀ (F := F)) (sep_elim_left.trans (hu₀ (vv m))) (hmain m ρ) (fq m) (hfin m) _ (fun _ h hz => ⟨h, hz⟩)

end Cert.Proof.Lookup

end
-- ==== Proof.List.lean ====
module

public import proofs.«01_k».proof.Proof.Main
public import Idealize.ShloMosaic.Lib.Pointwise

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

open Idealize.ShloMosaic.StableHlo (held held_sub_split held_congr wp_hlo_within)
open Idealize.ShloMosaic.Pipeline (ucRefs)

/-! ## The index list -/

theorem list_word (m : (ℓ : Loc nD τ sig) → Buf (Elt F) ℓ) (d : Dev nD) (n : Fin 1638400) :
    (st0 m d (dv main_v10) : S1638400.Idx → BitVec 32) (ix1 n)
      = 2#32 * (m ((SparseCore.T d).loc main_arg0) : S16384x50.Idx → BitVec 32) (ix2 ⟨n.val / 100, by omega⟩ ⟨n.val / 2 % 50, by omega⟩)
        + BitVec.ofNat 32 (n.val % 2) := by
  unfold st0 preOps
  after_results_simp
  pointwise
  have e : n.val / 2 / 50 = n.val / 100 := by omega
  simp only [e]
  rfl

/-- The piece of the list that begins at `c`. -/
theorem piece_read (x : S1638400.Idx → BitVec 32) (start : Fin 1 → Int) (c : ℕ) (h : start 0 = c) (hc : c ≤ 1228800) (y : Fin 409600) :
    Host.dynamicSlice S409600 x start sliceFits_S1638400_S409600 (ix1 y) = x (ix1 ⟨c + y.val, by omega⟩) := by
  pointwise
  have e : Host.clampedStart S1638400 S409600 rfl start 0 = c := by
    show (min (max (start 0) 0) (((1638400 - 409600 : ℕ) : Int))).toNat = c
    rw [h]; omega
  simp only [e]

theorem lst_mid (q : Fin 4) (V : Valuation τ sig (Elt F)) (y : Fin 409600) :
    lst (mid q V) q (ix1 y) = (V (dv main_v10) : S1638400.Idx → BitVec 32) (ix1 ⟨409600 * q.val + y.val, by omega⟩) := by
  match q with
  | 0 =>
    simp only [mid, opS, opC, lst]
    after_results_simp
    exact piece_read _ _ 0 (by rfl) (by decide) y
  | 1 =>
    simp only [mid, opS, opC, lst]
    after_results_simp
    exact piece_read _ _ 409600 (by rfl) (by decide) y
  | 2 =>
    simp only [mid, opS, opC, lst]
    after_results_simp
    exact piece_read _ _ 819200 (by rfl) (by decide) y
  | 3 =>
    simp only [mid, opS, opC, lst]
    after_results_simp
    exact piece_read _ _ 1228800 (by rfl) (by decide) y

/-! ## What the rounds keep -/

/-- The buffers round `q` writes. -/
def written (q : Fin 4) : List (Ref sig .tc) :=
  match q with
  | 0 => [main_c_0, main_v14, main_v15, main_v16, main_v17]
  | 1 => [main_c_1, main_v18, main_v19, main_v20, main_v21]
  | 2 => [main_c_2, main_v22, main_v23, main_v24, main_v25]
  | 3 => [main_c_3, main_v26, main_v27, main_v28, main_v29]

theorem gUpd_ne (q : Fin 4) (V : Valuation τ sig (Elt F)) (x) (b : Ref sig .tc) (hb : b ∉ written q) : gUpd q V x (dv b) = V (dv b) := by
  match q with
  | 0 | 1 | 2 | 3 =>
    refine Function.update_of_ne (StableHlo.devRef_ne_of_ne fun e => hb ?_) _ _
    rw [e]; decide

theorem oUpd_ne (q : Fin 4) (d : Dev nD) (V : Valuation τ sig (Elt F)) (b : Ref sig .tc) (hb : b ∉ written q) : oUpd q d V (dv b) = V (dv b) := by
  match q with
  | 0 | 1 | 2 | 3 =>
    refine Function.update_of_ne (StableHlo.devRef_ne_of_ne fun e => hb ?_) _ _
    rw [e]; decide

theorem opC_ne (q : Fin 4) (V : Valuation τ sig (Elt F)) (b : Ref sig .tc) (hb : b ∉ written q) : (opC q).result V (dv b) = V (dv b) := by
  match q with
  | 0 | 1 | 2 | 3 =>
    refine StableHlo.nullary_result_ne _ _ _ _ fun e => hb ?_
    rw [e]; decide

theorem opS_ne (q : Fin 4) (V : Valuation τ sig (Elt F)) (b : Ref sig .tc) (hb : b ∉ written q) : (opS q).result V (dv b) = V (dv b) := by
  match q with
  | 0 | 1 | 2 | 3 =>
    refine StableHlo.unaryIndexed_result_ne _ _ _ _ _ _ _ _ _ _ fun e => hb ?_
    rw [e]; decide

theorem opR_ne (q : Fin 4) (V : Valuation τ sig (Elt F)) (b : Ref sig .tc) (hb : b ∉ written q) : (opR q).result V (dv b) = V (dv b) := by
  match q with
  | 0 | 1 | 2 | 3 =>
    refine StableHlo.reshape_result_ne _ _ _ _ _ _ _ fun e => hb ?_
    rw [e]; decide

theorem mid_ne (q : Fin 4) (V : Valuation τ sig (Elt F)) (b : Ref sig .tc) (hb : b ∉ written q) : mid q V (dv b) = V (dv b) :=
  (opS_ne q _ b hb).trans (opC_ne q V b hb)

theorem post_ne (q : Fin 4) (d : Dev nD) (V : Valuation τ sig (Elt F)) (b : Ref sig .tc) (hb : b ∉ written q) : post q d V (dv b) = V (dv b) :=
  (oUpd_ne q d _ b hb).trans <| (opR_ne q _ b hb).trans <| (gUpd_ne q _ _ b hb).trans (mid_ne q V b hb)

variable (m : (ℓ : Loc nD τ sig) → Buf (Elt F) ℓ)

/-- A buffer no round writes is, before each round, as the first operations left it. -/
theorem stq_ne (q : Fin 4) (d : Dev nD) (b : Ref sig .tc) (hb : ∀ q, b ∉ written q) : stq m q d (dv b) = st0 m d (dv b) := by
  have h1 := post_ne 0 d (st0 m d) b (hb 0)
  have h2 := (post_ne 1 d (st1 m d) b (hb 1)).trans h1
  have h3 := (post_ne 2 d (st2 m d) b (hb 2)).trans h2
  match q with
  | 0 => rfl
  | 1 => exact h1
  | 2 => exact h2
  | 3 => exact h3

theorem st4_ne (d : Dev nD) (b : Ref sig .tc) (hb : ∀ q, b ∉ written q) : st4 m d (dv b) = st0 m d (dv b) :=
  (post_ne 3 d (st3 m d) b (hb 3)).trans (stq_ne m 3 d b hb)

/-- The word of round `q`'s list at `y`. -/
theorem vv_word (q : Fin 4) (d : Dev nD) (y : Fin 409600) :
    lst (vv m q d) q (ix1 y) = 2#32 * (m ((SparseCore.T d).loc main_arg0) : S16384x50.Idx → BitVec 32)
        (ix2 ⟨4096 * q.val + y.val / 100, by omega⟩ ⟨y.val / 2 % 50, by omega⟩) + BitVec.ofNat 32 (y.val % 2) := by
  rw [lst_mid, stq_ne m q d main_v10 (by decide), list_word]
  congr 1
  · congr 3
    · ext; show (409600 * q.val + y.val) / 100 = 4096 * q.val + y.val / 100; omega
    · ext; show (409600 * q.val + y.val) / 2 % 50 = y.val / 2 % 50; omega
  · congr 1; show (409600 * q.val + y.val) % 2 = _; omega

/-- The indices name rows of the table. -/
def InRange : Prop := ∀ (d : Dev nD) (j : S16384x50.Idx), ((m ((SparseCore.T d).loc main_arg0) : S16384x50.Idx → BitVec 32) j).toNat < 1000

theorem vv_nat (h : InRange m) (q : Fin 4) (d : Dev nD) (y : Fin 409600) :
    (lst (vv m q d) q (ix1 y)).toNat = 2 * ((m ((SparseCore.T d).loc main_arg0) : S16384x50.Idx → BitVec 32)
        (ix2 ⟨4096 * q.val + y.val / 100, by omega⟩ ⟨y.val / 2 % 50, by omega⟩)).toNat + y.val % 2 := by
  have hw := h d (ix2 ⟨4096 * q.val + y.val / 100, by omega⟩ ⟨y.val / 2 % 50, by omega⟩)
  rw [vv_word, BitVec.toNat_add, BitVec.toNat_mul, BitVec.toNat_ofNat, BitVec.toNat_ofNat]
  omega

theorem vv_lt (h : InRange m) (q : Fin 4) (d : Dev nD) (y : S409600.Idx) : (lst (vv m q d) q y).toNat < 2000 := by
  have e := vv_nat m h q d (y 0)
  rw [← eq_ix1 y] at e
  rw [e]
  have hw := h d (ix2 ⟨4096 * q.val + (y 0).val / 100, by have := (y 0).isLt; omega⟩ ⟨(y 0).val / 2 % 50, by omega⟩)
  omega

/-! ## The arguments are kept -/

theorem vfin_ne (d : Dev nD) (b : Ref sig .tc) (hb : ∀ q, b ∉ written q) (h30 : b ≠ main_v30) : vfin m d (dv b) = st0 m d (dv b) :=
  (StableHlo.nary_result_ne _ _ _ _ _ _ h30).trans (st4_ne m d b hb)

def argRefs : List (Ref sig .tc) := [main_arg0, main_arg1, main_arg2, main_arg3, main_arg4, main_arg5]

theorem st0_arg (d : Dev nD) : ∀ b ∈ argRefs, st0 m d (dv b) = m ((SparseCore.T d).loc b) := by
  intro b hb
  simp only [argRefs, List.mem_cons, List.not_mem_nil, or_false] at hb
  rcases hb with rfl | rfl | rfl | rfl | rfl | rfl <;> (unfold st0 preOps; after_results_simp; rfl)

theorem vfin_arg (d : Dev nD) : ∀ b ∈ argRefs, vfin m d (dv b) = m ((SparseCore.T d).loc b) := fun b hb =>
  (vfin_ne m d b (by revert b; decide) (by revert b; decide)).trans (st0_arg m d b hb)

end Cert.Proof.Lookup

end
-- ==== Proof.Frame.lean ====
/-
  What the runs keep: the six argument arrays end as they began and every semaphore ends at zero, for the
  kernel at both readings of its floats and for the reference.
-/
module

public import proofs.«01_k».proof.Proof.List
public import proofs.«01_k».proof.Defs
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll

@[expose] public section

noncomputable section

namespace Cert.Proof.Lookup

open Idealize.ShloMosaic Idealize.SL.Sem Cert.KernelIdeal

attribute [local instance] Cert.Kernel.Gen.facts Cert.KernelIdeal.Gen.facts Cert.ReferenceIdeal.Gen.facts Cert.Pre_in_range.Gen.facts

/-- The precondition, read at an index: the word there names a row of the table. -/
theorem word_lt {F : FTy → Type} [FloatOps F] (x0 : IVec Cert.Pre_in_range.S16384x50 32) (x1 : FVec F Cert.Pre_in_range.S1000x32 .f32)
    (x2 : FVec F Cert.Pre_in_range.S1600x256 .f32) (x3 : FVec F Cert.Pre_in_range.S256 .f32)
    (x4 : FVec F Cert.Pre_in_range.S256x10 .f32) (x5 : FVec F Cert.Pre_in_range.S10 .f32)
    (h : Cert.Pre_in_range.fn x0 x1 x2 x3 x4 x5 = fun _ => 1#1) (j : Cert.Pre_in_range.S16384x50.Idx) : (x0 j).toNat < 1000 := by
  have conj (p q : Bool) : IntOp.andi (BitVec.ofBool p) (BitVec.ofBool q) = BitVec.ofBool (p && q) := by
    cases p <;> cases q <;> decide
  have one (p : Bool) : (BitVec.ofBool p = 1#1) ↔ p = true := by cases p <;> decide
  have key : ∀ v : BitVec 32, IntOp.andi (IntOp.cmpi .sge v 0#32) (IntOp.cmpi .slt v 1000#32) = 1#1 → v.toNat < 1000 := by
    intro v e
    simp only [IntOp.cmpi, conj, one, Bool.and_eq_true, BitVec.sle_eq_decide, BitVec.slt_eq_decide,
      decide_eq_true_eq, BitVec.toInt_eq_toNat_cond, BitVec.toNat_ofNat, Nat.reducePow, Nat.reduceMod] at e
    omega
  have e := congrFun h (Shape.Idx.first Cert.Pre_in_range.Facts.h_S_)
  dsimp only [Cert.Pre_in_range.fn] at e
  haveI : Subsingleton Cert.Pre_in_range.S_.Idx := ⟨fun a b => funext fun k => k.elim0⟩
  exact key _ (Host.reduce_andi_all _ _ _ _ _ e j)

theorem inRange_bits (m : (ℓ : Loc Cert.Kernel.nD Cert.Kernel.τ Cert.Kernel.sig) → Buf (Elt Bits) ℓ) (h : Cert.Pre_Kernel m) :
    InRange (F := Bits) m := fun d j => word_lt _ _ _ _ _ _ (h d) j

theorem inRange_ideal (m : (ℓ : Loc nD τ sig) → Buf (Elt Ideal) ℓ) (h : Cert.Pre_KernelIdeal m) : InRange (F := Ideal) m :=
  fun d j => word_lt _ _ _ _ _ _ (h d) j

section
variable {F : FTy → Type} [FloatOps F]

/-- What every run of the kernel ends in: the six arguments as they were, the result as the run leaves it, and
    every semaphore at zero. -/
theorem run_kernel [∀ e, Nonempty (Elt F e)] (m : (ℓ : Loc nD τ sig) → Buf (Elt F) ℓ) (ρ : Dev nD → PrngReg) (h : InRange m) :
    θ_run (Cert.KernelIdeal.defs (F := F)) (Cert.KernelIdeal.threads (F := F)) ⟨m, fun _ => 0, ρ⟩ (fun r =>
      (∀ c : Dev nD, r.2.mem ((c.tc : Thread nD τ).loc main_v30) = vfin m c (dv main_v30) ∧
        ∀ b ∈ argRefs, r.2.mem ((c.tc : Thread nD τ).loc b) = m ((c.tc : Thread nD τ).loc b)) ∧ r.2.sem = fun _ => 0) :=
  (θ_run Cert.KernelIdeal.defs _ _).mono (fun r hr => ⟨fun c => ⟨hr.1 c (dv main_v30) (Finset.mem_filter.2 ⟨StableHlo.devRef_mem_tcRefs _, by decide⟩), fun b hb =>
    (hr.1 c (dv b) (by revert b; decide)).trans (vfin_arg m c b hb)⟩, hr.2⟩) (run_main m ρ (vv_lt m h))

end

theorem frame_ideal : Cert.quiescent_KernelIdeal := fun m ρ h =>
  (θ_run Cert.KernelIdeal.defs _ _).mono (fun r hr => ⟨fun c =>
    ⟨(hr.1 c).2 main_arg0 (by decide), (hr.1 c).2 main_arg1 (by decide), (hr.1 c).2 main_arg2 (by decide),
      (hr.1 c).2 main_arg3 (by decide), (hr.1 c).2 main_arg4 (by decide), (hr.1 c).2 main_arg5 (by decide)⟩, hr.2⟩)
    (run_kernel (F := Ideal) m ρ (inRange_ideal m h))

set_option maxHeartbeats 4000000 in
/-- The kernels' bodies read the same in the two programs. -/
theorem bodies_same : Cert.Kernel.defs₀ (F := Bits) = Cert.KernelIdeal.defs₀ (F := Bits) := by
  funext p ℓ a
  cases p with
  | tc => fin_cases ℓ <;> rfl
  | scScalar c => rfl
  | scVector c s => fin_cases ℓ <;> rfl

theorem defs_same : Cert.Kernel.defs (F := Bits) = Cert.KernelIdeal.defs (F := Bits) :=
  congrArg (fun D => (Cert.KernelIdeal.sc (F := Bits)).defs (Pipeline.defs (Cert.KernelIdeal.pcfgs (F := Bits)) D)) bodies_same

set_option maxHeartbeats 4000000 in
theorem main_same : Cert.Kernel.main (F := Bits) = Cert.KernelIdeal.main (F := Bits) := rfl

theorem threads_same : Cert.Kernel.threads (F := Bits) = Cert.KernelIdeal.threads (F := Bits) :=
  congrArg (fun M => (Cert.KernelIdeal.sc (F := Bits)).threads M) main_same

theorem frame_kernel : Cert.quiescent_Kernel := fun m ρ h => by
  rw [defs_same, threads_same]
  refine (θ_run Cert.KernelIdeal.defs _ _).mono (fun r hr => ⟨fun c => ?_, hr.2⟩) (run_kernel (F := Bits) m ρ (inRange_bits m h))
  exact ⟨(hr.1 c).2 main_arg0 (by decide), (hr.1 c).2 main_arg1 (by decide), (hr.1 c).2 main_arg2 (by decide),
    (hr.1 c).2 main_arg3 (by decide), (hr.1 c).2 main_arg4 (by decide), (hr.1 c).2 main_arg5 (by decide)⟩

theorem frame_reference : Cert.quiescent_ReferenceIdeal := fun m ρ _ =>
  (θ_run Cert.ReferenceIdeal.defs _ _).mono
    (fun r hr => ⟨fun c => (hr c).2, Idealize.ShloMosaic.sem_eq_zero_of_no_sems (by decide) r.2⟩) (Cert.ReferenceIdeal.Value.run m ρ)

end Cert.Proof.Lookup

end
-- ==== Proof.Dense.lean ====
module

public import proofs.«01_k».proof.Proof.Gen.KernelIdeal
public import proofs.«01_k».proof.Proof.Gen.KernelIdeal.Skeleton
public import Idealize.ShloMosaic.Lib.Pointwise
public import Idealize.ShloMosaic.PureOps.Ideal

@[expose] public section

noncomputable section

namespace Cert.Proof.Lookup

open Idealize.ShloMosaic Cert.KernelIdeal Cert.KernelIdeal.Gen

/-! ## A row of the classifier, over the reals -/

/-- The ten scores of a row `x` of 1600 features: two dense layers, a ramp between them. -/
def score (x : Fin 1600 → EReal) (w : Fin 1600 → Fin 256 → EReal) (b : Fin 256 → EReal) (u : Fin 256 → Fin 10 → EReal)
    (e : Fin 10 → EReal) (n : Fin 10) : EReal :=
  ∑ j, max (∑ k, x k * w k j + b j) 0 * u j n + e n

/-- The largest of ten scores. -/
def top (l : Fin 10 → EReal) : EReal := Finset.fold max (Ideal.ofBits FTy.f32 4286578688#32) l Finset.univ

/-- The share of score `n` among the ten. -/
def soft (l : Fin 10 → EReal) (n : Fin 10) : EReal := Ideal.div (Ideal.exp (l n - top l)) (∑ x, Ideal.exp (l x - top l))

set_option maxRecDepth 16384 in
/-- The kernel's dense layers at an index: the classifier of that row. -/
theorem pay_at (v0 : Vec Ideal S1024x1600 .f32) (v3 : Vec Ideal S1600x256 .bf16) (v6 : Vec Ideal S1x256 .f32) (v12 : Vec Ideal S256x10 .f32)
    (v14 : Vec Ideal S1x10 .f32) (i : Fin 1024) (n : Fin 10) :
    k1_pay1 (F := Ideal) v0 v3 v6 v12 v14 (ix2 i n)
      = soft (score (fun k => v0 (ix2 i k)) (fun k j => v3 (ix2 k j)) (fun j => v6 (ix2 0 j)) (fun j n => v12 (ix2 j n)) (fun n => v14 (ix2 0 n))) n := by
  pointwise [k1_pay1]
  rfl

end Cert.Proof.Lookup

end
-- ==== Proof.Blocks.lean ====
module

public import proofs.«01_k».proof.Proof.List
public import proofs.«01_k».proof.Proof.Dense
public import Idealize.ShloMosaic.Lib.Pipeline.ValueKit

@[expose] public section

noncomputable section

namespace Cert.Proof.Lookup

open Idealize.ShloMosaic Cert.KernelIdeal Cert.KernelIdeal.Gen

/-- The rows that round `p` hands to the classifier. -/
def rowsIn (p : Fin 4) (V : Valuation τ sig (Elt Ideal)) : S4096x1600.Idx → EReal :=
  match p with
  | 0 => V (dv main_v16)
  | 1 => V (dv main_v20)
  | 2 => V (dv main_v24)
  | 3 => V (dv main_v28)

/-- The classifier of row `r` of `x`, with the weights as the valuation has them. -/
def classed (V : Valuation τ sig (Elt Ideal)) (x : Fin 1600 → EReal) : Fin 10 → EReal :=
  soft (score x (fun k j => (V (dv main_v11) : S1600x256.Idx → EReal) (ix2 k j)) (fun j => (V (dv main_v12) : S1x256.Idx → EReal) (ix2 0 j))
    (fun j n => (V (dv main_arg4) : S256x10.Idx → EReal) (ix2 j n)) (fun n => (V (dv main_v13) : S1x10.Idx → EReal) (ix2 0 n)))

/-- A block's rows, classified, are the classified rows of the array that the block is cut from. -/
theorem block_value (V : Valuation τ sig (Elt Ideal)) (x1 : S1024x1600.Idx → EReal) (x2 : S1600x256.Idx → EReal) (x3 : S1x256.Idx → EReal)
    (x4 : S256x10.Idx → EReal) (x5 : S1x10.Idx → EReal) (rows : S4096x1600.Idx → EReal) (y : S1024x10.Idx) (i : S4096x10.Idx)
    (h1 : ∀ k, x1 (ix2 (y 0) k) = rows (ix2 (i 0) k)) (h2 : ∀ z, x2 z = (V (dv main_v11) : S1600x256.Idx → EReal) z)
    (h3 : ∀ z, x3 z = (V (dv main_v12) : S1x256.Idx → EReal) z) (h4 : ∀ z, x4 z = (V (dv main_arg4) : S256x10.Idx → EReal) z)
    (h5 : ∀ z, x5 z = (V (dv main_v13) : S1x10.Idx → EReal) z) (hi : (y 1 : Fin 10) = i 1) :
    k1_pay1 (F := Ideal) x1 x2 x3 x4 x5 y = classed V (fun k => rows (ix2 (i 0) k)) (i 1) := by
  have e := pay_at x1 x2 x3 x4 x5 (y 0) (y 1)
  rw [← eq_ix2 y] at e
  rw [e]
  unfold classed
  simp only [h1, h2, h3, h4, h5, hi]

set_option maxHeartbeats 2000000 in
/-- What the classifier of round `p` leaves in its result. -/
theorem arr_out (V : Valuation τ sig (Elt Ideal)) (c : Dev nD) : (p : Fin 4) → (i : S4096x10.Idx) →
    (match p with
      | 0 => ((dat (fun _ => V) 0 c).arrAt 5 (cfgs 0).N : S4096x10.Idx → EReal) | 1 => (dat (fun _ => V) 1 c).arrAt 5 (cfgs 1).N
      | 2 => (dat (fun _ => V) 2 c).arrAt 5 (cfgs 2).N | 3 => (dat (fun _ => V) 3 c).arrAt 5 (cfgs 3).N) i
      = classed V (fun k => rowsIn p V (ix2 (i 0) k)) (i 1) := by
  intro p
  apply congrFun
  match p with
  | 0 | 1 | 2 | 3 =>
    refine Pipeline.Dat.arrAt_eq_of_covers _ 5 _ (by decide +kernel) fun t hf y => ?_
    blk_simp
    refine block_value V _ _ _ _ _ _ y _ (fun k => congrArg (V _) ?_) (fun z => congrArg (V _) ?_) (fun z => congrArg (V _) ?_)
      (fun z => congrArg (V _) ?_) (fun z => congrArg (V _) ?_) (Fin.ext ?_)
    · funext a; refine Fin.ext ?_
      match a with
      | 0 => blk_simp; rfl
      | 1 => blk_simp; exact (congrArg (· + k.val) (Nat.zero_mul 1600)).trans (Nat.zero_add _)
    · funext a; refine Fin.ext ?_
      match a with
      | 0 | 1 => blk_simp; first | rfl | exact (congrArg (· + _) (Nat.zero_mul _)).trans (Nat.zero_add _)
    · funext a; refine Fin.ext ?_
      match a with
      | 0 | 1 => blk_simp; first | rfl | exact (congrArg (· + _) (Nat.zero_mul _)).trans (Nat.zero_add _)
    · funext a; refine Fin.ext ?_
      match a with
      | 0 | 1 => blk_simp; first | rfl | exact (congrArg (· + _) (Nat.zero_mul _)).trans (Nat.zero_add _)
    · funext a; refine Fin.ext ?_
      match a with
      | 0 | 1 => blk_simp; first | rfl | exact (congrArg (· + _) (Nat.zero_mul _)).trans (Nat.zero_add _)
    · blk_simp; exact ((congrArg (· + _) (Nat.zero_mul _)).trans (Nat.zero_add _)).symm

end Cert.Proof.Lookup

end
-- ==== Proof.RefRow.lean ====
/-
  The reference at an index: the classifier of the row of looked-up features.
-/
module

public import proofs.«01_k».proof.Proof.Dense
public import proofs.«01_k».proof.Proof.Gen.ReferenceIdeal
public import proofs.«01_k».proof.Proof.Gen.ReferenceIdeal.Run
public import Idealize.ShloMosaic.Lib.ReduceAll

@[expose] public section

noncomputable section

namespace Cert.Proof.Lookup

open Idealize.ShloMosaic Cert.ReferenceIdeal Cert.ReferenceIdeal.Gen

/-! ## The reference's value in two parts -/

/-- The row numbers, a negative one counted from the end, as the lookup reads them. -/
def rowNo (a : IVec S16384x50 32) : IVec S16384x50x1 32 :=
  broadcastInDim S16384x50x1 ![0, 1] bcast_S16384x50_S16384x50x1_0_1
    (select (cmpi .slt a (broadcastInDim S16384x50 ![] bcast_S_S16384x50 (constantI S_ 32 0#32)))
      (addi a (broadcastInDim S16384x50 ![] bcast_S_S16384x50 (constantI S_ 32 1000#32))) a)

/-- Whether a row number is one of the table's. -/
def rowOk (j : IVec S16384x50x1 32) : IVec S16384x50 1 :=
  Host.reduce IntOp.andi (andi (cmpi .sge j (broadcastInDim S16384x50x1 ![] bcast_S_S16384x50x1 (constantI S_ 32 0#32)))
    (cmpi .sle j (broadcastInDim S16384x50x1 ![0, 1, 2] bcast_S1x1x1_S16384x50x1_0_1_2
      (broadcastInDim S1x1x1 ![2] bcast_S1_S1x1x1_2 (constantI S1 32 999#32)))))
    (constantI S_ 1 1#1) reducesTo_S16384x50x1_S16384x50_d2 h_S_

/-- The looked-up rows. -/
def looked (a : IVec S16384x50 32) (tb : FVec Ideal S1000x32 .f32) : FVec Ideal S16384x50x32 .f32 :=
  select (broadcastInDim S16384x50x32 ![0, 1] bcast_S16384x50_S16384x50x32_0_1 (rowOk (rowNo a)))
    (Host.gather gather_S1000x32_S16384x50x1_S16384x50x32_2_0_n_n_0_2_132 tb (rowNo a))
    (broadcastInDim S16384x50x32 ![] bcast_S_S16384x50x32 (constant S_ FTy.f32 0x7FC00000#32))

/-- The scores of all rows. -/
def scores (x : FVec Ideal S16384x1600 .f32) (w : FVec Ideal S1600x256 .f32) (b : FVec Ideal S256 .f32) (u : FVec Ideal S256x10 .f32)
    (e : FVec Ideal S10 .f32) : FVec Ideal S16384x10 .f32 :=
  addf (Host.dotGeneral dot_S16384x256_S256x10_S16384x10_1_0_0_1_n_n none
    (maximumf (addf (Host.dotGeneral dot_S16384x1600_S1600x256_S16384x256_1_0_0_1_n_n none x w)
      (broadcastInDim S16384x256 ![0, 1] bcast_S1x256_S16384x256_0_1 (broadcastInDim S1x256 ![1] bcast_S256_S1x256_1 b)))
      (broadcastInDim S16384x256 ![] bcast_S_S16384x256 (constant S_ FTy.f32 0x00000000#32))) u)
    (broadcastInDim S16384x10 ![0, 1] bcast_S1x10_S16384x10_0_1 (broadcastInDim S1x10 ![1] bcast_S10_S1x10_1 e))

/-- The exponentials of the scores, each less its row's largest. -/
def lifted (l : FVec Ideal S16384x10 .f32) : FVec Ideal S16384x10 .f32 :=
  Host.exp (subf l (broadcastInDim S16384x10 ![0, 1] bcast_S16384x1_S16384x10_0_1 (broadcastInDim S16384x1 ![0] bcast_S16384_S16384x1_0
    (maximumf (broadcastInDim S16384 ![] bcast_S_S16384 (constant S_ FTy.f32 0xFF800000#32))
      (Host.reduce FloatOps.maximumf l (constant S_ FTy.f32 0xFF800000#32) reducesTo_S16384x10_S16384_d1 h_S_)))))

def shares (x : FVec Ideal S16384x10 .f32) : FVec Ideal S16384x10 .f32 :=
  Host.divf x (broadcastInDim S16384x10 ![0, 1] bcast_S16384x1_S16384x10_0_1 (broadcastInDim S16384x1 ![0] bcast_S16384_S16384x1_0
    (Host.reduceAdd x (constant S_ FTy.f32 0x00000000#32) reducesTo_S16384x10_S16384_d1 h_S_)))

variable (m : (ℓ : Loc nD τ sig) → Buf (Elt Ideal) ℓ) (c : Dev nD)

set_option maxRecDepth 16384 in
theorem ref_parts : Cert.ReferenceIdeal.Value.res_out0 m c = shares (lifted (scores
    (shapeCast S16384x1600 (looked (m ((c.tc : Thread nD τ).loc main_arg0)) (m ((c.tc : Thread nD τ).loc main_arg1))) shapeCasts_S16384x50x32_S16384x1600)
    (m ((c.tc : Thread nD τ).loc main_arg2)) (m ((c.tc : Thread nD τ).loc main_arg3)) (m ((c.tc : Thread nD τ).loc main_arg4)) (m ((c.tc : Thread nD τ).loc main_arg5)))) := rfl

/-! ## The classifier -/

set_option maxRecDepth 16384

theorem scores_at (x : FVec Ideal S16384x1600 .f32) (w : FVec Ideal S1600x256 .f32) (b : FVec Ideal S256 .f32) (u : FVec Ideal S256x10 .f32)
    (e : FVec Ideal S10 .f32) (r : Fin 16384) (n : Fin 10) :
    scores x w b u e (ix2 r n) = score (fun k => x (ix2 r k)) (fun k j => w (ix2 k j)) (fun j => b (ix1 j)) (fun j n => u (ix2 j n)) (fun n => e (ix1 n)) n := by
  pointwise [scores]
  rfl

theorem lifted_at (l : FVec Ideal S16384x10 .f32) (r : Fin 16384) (n : Fin 10) :
    lifted l (ix2 r n) = Ideal.exp (l (ix2 r n) - top (fun n => l (ix2 r n))) := by
  pointwise [lifted]
  congr 2
  exact max_eq_right ((Finset.le_fold_max _).2 (Or.inl le_rfl))

theorem shares_at (x : FVec Ideal S16384x10 .f32) (r : Fin 16384) (n : Fin 10) :
    shares x (ix2 r n) = Ideal.div (x (ix2 r n)) (∑ k, x (ix2 r k)) := by
  pointwise [shares]

/-! ## The lookup -/

theorem slt_zero (v : BitVec 32) (h : v.toNat < 1000) : IntOp.cmpi .slt v 0#32 = 0#1 := by
  have e : BitVec.slt v 0#32 = false := by
    simp only [BitVec.slt_eq_decide, decide_eq_false_iff_not, BitVec.toInt_eq_toNat_cond, BitVec.toNat_ofNat, Nat.reducePow, Nat.reduceMod]
    omega
  simp only [IntOp.cmpi, e]; rfl

theorem within (v : BitVec 32) (h : v.toNat < 1000) : IntOp.andi (IntOp.cmpi .sge v 0#32) (IntOp.cmpi .sle v 999#32) = 1#1 := by
  have e1 : BitVec.sle 0#32 v = true := by
    simp only [BitVec.sle_eq_decide, decide_eq_true_eq, BitVec.toInt_eq_toNat_cond, BitVec.toNat_ofNat, Nat.reducePow, Nat.reduceMod]
    omega
  have e2 : BitVec.sle v 999#32 = true := by
    simp only [BitVec.sle_eq_decide, decide_eq_true_eq, BitVec.toInt_eq_toNat_cond, BitVec.toNat_ofNat, Nat.reducePow, Nat.reduceMod]
    omega
  simp only [IntOp.cmpi, e1, e2]; rfl

theorem rowNo_at (a : IVec S16384x50 32) (h : ∀ j, (a j).toNat < 1000) (r : Fin 16384) (s : Fin 50) (z : Fin 1) :
    rowNo a (ix3 r s z) = a (ix2 r s) := by
  pointwise [rowNo]
  rw [slt_zero _ (h _)]
  rfl

theorem gather_at (tb : FVec Ideal S1000x32 .f32) (j : IVec S16384x50x1 32) (r : Fin 16384) (s : Fin 50) (q : Fin 32) (h : (j (ix3 r s 0)).toNat < 1000) :
    Host.gather gather_S1000x32_S16384x50x1_S16384x50x32_2_0_n_n_0_2_132 tb j (ix3 r s q) = tb (ix2 ⟨(j (ix3 r s 0)).toNat, h⟩ q) := by
  let G := gather_S1000x32_S16384x50x1_S16384x50x32_2_0_n_n_0_2_132
  unfold Host.gather
  congr 1
  funext a
  refine Fin.ext ?_
  show G.start (ix3 r s q) j a + G.batchCoord (ix3 r s q) a + G.offCoord (ix3 r s q) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ G.startIndexMap from List.mem_singleton.mpr rfl)]
    have hsi : G.siIdx (ix3 r s q) ⟨List.idxOf (0 : Fin 2) G.startIndexMap, List.idxOf_lt_length_iff.2 (List.mem_singleton.mpr rfl)⟩
        = ix3 r s 0 := by
      funext b; refine Fin.ext ?_
      match b with
      | 0 => rfl
      | 1 => rfl
      | 2 => rfl
    rw [hsi]
    show min (j (ix3 r s 0)).toInt.toNat 999 = (j (ix3 r s 0)).toNat
    rw [BitVec.toInt_eq_toNat_cond]
    omega
  | 1 =>
    unfold GatherDims.start
    rw [dif_neg (show ¬ (1 : Fin 2) ∈ G.startIndexMap by decide)]
    show 0 + 0 + G.offCoord (ix3 r s q) 1 = q.val
    unfold GatherDims.offCoord
    rw [dif_pos (by decide)]
    simp only [Nat.zero_add]
    rfl

theorem rowOk_at (j : IVec S16384x50x1 32) (h : ∀ i, (j i).toNat < 1000) (i : S16384x50.Idx) : rowOk j i = 1#1 := by
  refine Host.reduce_andi_one _ _ _ _ _ rfl fun k => ?_
  idx_vars k
  pointwise
  exact within _ (h _)

theorem looked_at (a : IVec S16384x50 32) (tb : FVec Ideal S1000x32 .f32) (h : ∀ j, (a j).toNat < 1000) (r : Fin 16384) (k : Fin 1600) :
    shapeCast S16384x1600 (looked a tb) shapeCasts_S16384x50x32_S16384x1600 (ix2 r k)
      = tb (ix2 ⟨(a (ix2 r ⟨k.val / 32, by omega⟩)).toNat, h _⟩ ⟨k.val % 32, by omega⟩) := by
  pointwise [looked]
  have e : ∀ i, rowNo a i = a (ix2 (i 0) (i 1)) := fun i => by rw [eq_ix3 i]; exact rowNo_at a h _ _ _
  have hr : ∀ i, (rowNo a i).toNat < 1000 := fun i => by rw [e]; exact h _
  rw [rowOk_at _ hr, gather_at tb _ _ _ _ (hr _)]
  show tb _ = tb _
  simp only [rowNo_at a h]

end Cert.Proof.Lookup

end
-- ==== Proof.Value.lean ====
/-
  The value: the kernel's result at an index is the classifier of the row of looked-up features, as the
  reference's is.
-/
module

public import proofs.«01_k».proof.Proof.Blocks
public import proofs.«01_k».proof.Proof.RefRow
public import proofs.«01_k».proof.Proof.Frame

@[expose] public section

noncomputable section

namespace Cert.Proof.Lookup

open Idealize.ShloMosaic Idealize.SL.Sem Cert.KernelIdeal Cert.KernelIdeal.Gen

/-! ## One round's result -/

/-- Round `q`'s result. -/
def outRef (q : Fin 4) : Ref sig .tc := match q with | 0 => main_v17 | 1 => main_v21 | 2 => main_v25 | 3 => main_v29

/-- Round `q`'s result, as the valuation has it. -/
def outs (q : Fin 4) (V : Valuation τ sig (Elt Ideal)) : S4096x10.Idx → EReal :=
  match q with | 0 => V (dv main_v17) | 1 => V (dv main_v21) | 2 => V (dv main_v25) | 3 => V (dv main_v29)

/-- What the buffers hold when round `q` starts its classifier. -/
abbrev fed (q : Fin 4) (V : Valuation τ sig (Elt Ideal)) : Valuation τ sig (Elt Ideal) :=
  (opR q).result (gUpd q (mid q V) (got (mid q V) q))

theorem put_self (V : Valuation τ sig (Elt Ideal)) (b : DevRef τ sig) (x) : Function.update V b x b = x := Function.update_self _ _ _

theorem outs_post (q : Fin 4) (d : Dev nD) (V : Valuation τ sig (Elt Ideal)) (i : S4096x10.Idx) :
    outs q (post q d V) i = classed (fed q V) (fun k => rowsIn q (fed q V) (ix2 (i 0) k)) (i 1) := by
  refine Eq.trans ?_ (arr_out (fed q V) d q i)
  match q with
  | 0 => exact congrArg (fun g : S4096x10.Idx → EReal => g i) (put_self (fed 0 V) (dv main_v17) _)
  | 1 => exact congrArg (fun g : S4096x10.Idx → EReal => g i) (put_self (fed 1 V) (dv main_v21) _)
  | 2 => exact congrArg (fun g : S4096x10.Idx → EReal => g i) (put_self (fed 2 V) (dv main_v25) _)
  | 3 => exact congrArg (fun g : S4096x10.Idx → EReal => g i) (put_self (fed 3 V) (dv main_v29) _)

theorem fed_ne (q : Fin 4) (V : Valuation τ sig (Elt Ideal)) (b : Ref sig .tc) (hb : b ∉ written q) : fed q V (dv b) = V (dv b) :=
  (opR_ne q _ b hb).trans <| (gUpd_ne q _ _ b hb).trans (mid_ne q V b hb)

/-- A row handed to the classifier, out of the fetched half rows. -/
theorem rowsIn_fed (q : Fin 4) (V : Valuation τ sig (Elt Ideal)) (r : Fin 4096) (k : Fin 1600) :
    rowsIn q (fed q V) (ix2 r k) = (got (mid q V) q : S409600x16.Idx → EReal) (ix2 ⟨100 * r.val + k.val / 16, by omega⟩ ⟨k.val % 16, by omega⟩) := by
  have key : ∀ g x : S409600x16.Idx → EReal, g = x → shapeCast S4096x1600 g shapeCasts_S409600x16_S4096x1600 (ix2 r k)
      = x (ix2 ⟨100 * r.val + k.val / 16, by omega⟩ ⟨k.val % 16, by omega⟩) := fun g x e => by
    subst e
    pointwise
    simp only [Nat.mul_comm r.val 100]
  match q with
  | 0 | 1 | 2 | 3 =>
    simp only [rowsIn, fed, opR]
    after_results_simp
    exact key _ _ (put_self (mid _ V) _ _)

variable (m : (ℓ : Loc nD τ sig) → Buf (Elt Ideal) ℓ)

/-- The table of half rows. -/
theorem half_row (d : Dev nD) (a : Fin 2000) (c : Fin 16) :
    (st0 m d (dv main_v1) : S2000x16.Idx → EReal) (ix2 a c)
      = (m ((SparseCore.T d).loc main_arg1) : S1000x32.Idx → EReal) (ix2 ⟨a.val / 2, by omega⟩ ⟨a.val % 2 * 16 + c.val, by omega⟩) := by
  unfold st0 preOps
  after_results_simp
  pointwise
  rfl

theorem weights (d : Dev nD) :
    (∀ k j, (st0 m d (dv main_v11) : S1600x256.Idx → EReal) (ix2 k j) = (m ((SparseCore.T d).loc main_arg2) : S1600x256.Idx → EReal) (ix2 k j))
    ∧ (∀ j, (st0 m d (dv main_v12) : S1x256.Idx → EReal) (ix2 0 j) = (m ((SparseCore.T d).loc main_arg3) : S256.Idx → EReal) (ix1 j))
    ∧ (∀ n, (st0 m d (dv main_v13) : S1x10.Idx → EReal) (ix2 0 n) = (m ((SparseCore.T d).loc main_arg5) : S10.Idx → EReal) (ix1 n)) := by
  refine ⟨fun k j => ?_, fun j => ?_, fun n => ?_⟩ <;>
    (unfold st0 preOps; after_results_simp; pointwise; rfl)

/-- The four results, one after another. -/
theorem result_at (d : Dev nD) (q : Fin 4) (r : Fin 4096) (n : Fin 10) :
    (vfin m d (dv main_v30) : S16384x10.Idx → EReal) (ix2 ⟨4096 * q.val + r.val, by omega⟩ n) = outs q (st4 m d) (ix2 r n) := by
  unfold vfin
  after_results_simp
  match q with
  | 0 => pointwise; rfl
  | 1 => pointwise; rfl
  | 2 =>
    pointwise
    rw [dif_neg (by omega), dif_neg (by omega), dif_pos (by omega)]
    have e : 8192 + r.val - 4096 - 4096 = r.val := by omega
    simp only [e]; rfl
  | 3 =>
    pointwise
    rw [dif_neg (by omega), dif_neg (by omega), dif_neg (by omega)]
    have e : 12288 + r.val - 4096 - 4096 - 4096 = r.val := by omega
    simp only [e]; rfl

/-- A round's result is kept by the rounds after it. -/
theorem outs_kept (d : Dev nD) (q : Fin 4) : outs q (st4 m d) = outs q (post q d (stq m q d)) := by
  match q with
  | 0 =>
    exact ((post_ne 3 d (st3 m d) main_v17 (by decide)).trans ((post_ne 2 d (st2 m d) main_v17 (by decide)).trans
      (post_ne 1 d (st1 m d) main_v17 (by decide))) : st4 m d (dv main_v17) = st1 m d (dv main_v17))
  | 1 =>
    exact ((post_ne 3 d (st3 m d) main_v21 (by decide)).trans (post_ne 2 d (st2 m d) main_v21 (by decide)) :
      st4 m d (dv main_v21) = st2 m d (dv main_v21))
  | 2 => exact (post_ne 3 d (st3 m d) main_v25 (by decide) : st4 m d (dv main_v25) = st3 m d (dv main_v25))
  | 3 => rfl

/-- The table's entry that feature `k` of row `r` names. -/
def feature (h : InRange m) (d : Dev nD) (r : Fin 16384) (k : Fin 1600) : EReal :=
  (m ((SparseCore.T d).loc main_arg1) : S1000x32.Idx → EReal)
    (ix2 ⟨((m ((SparseCore.T d).loc main_arg0) : S16384x50.Idx → BitVec 32) (ix2 r ⟨k.val / 32, by omega⟩)).toNat, h d _⟩ ⟨k.val % 32, by omega⟩)

/-- What the gather of round `q` fetched, in the classifier's rows: the features. -/
theorem fetched_row (h : InRange m) (d : Dev nD) (q : Fin 4) (r : Fin 4096) (k : Fin 1600) :
    rowsIn q (fed q (stq m q d)) (ix2 r k) = feature m h d ⟨4096 * q.val + r.val, by omega⟩ k := by
  rw [rowsIn_fed]
  have ht : mid q (stq m q d) (dv main_v1) = st0 m d (dv main_v1) :=
    (mid_ne q _ main_v1 (by revert q; decide)).trans (stq_ne m q d main_v1 (by decide))
  have hw := vv_nat m h q d ⟨100 * r.val + k.val / 16, by omega⟩
  have e1 : 4096 * q.val + (100 * r.val + k.val / 16) / 100 = 4096 * q.val + r.val := by omega
  have e2 : (100 * r.val + k.val / 16) / 2 % 50 = k.val / 32 := by omega
  have e3 : (100 * r.val + k.val / 16) % 2 = k.val / 16 % 2 := by omega
  simp only [e1, e2, e3] at hw
  have hb := h d (ix2 ⟨4096 * q.val + r.val, by omega⟩ ⟨k.val / 32, by omega⟩)
  have hg : ∀ (tb : S2000x16.Idx → EReal) (ls : S409600.Idx → BitVec 32) (y : Fin 409600) (c : Fin 16) (w : ℕ) (hw : (ls (ix1 y)).toNat = w) (hl : w < 2000),
      gath (F := Ideal) tb ls (ix2 y c) = tb (ix2 ⟨w, hl⟩ c) := by
    intro tb ls y c w hw hl
    subst hw
    refine congrArg tb ?_
    funext a
    match a with
    | 0 =>
      refine Fin.ext ((congrArg (fun z => (ls z).toNat % 2000) (eq_ix1 _)).trans ?_)
      exact Nat.mod_eq_of_lt hl
    | 1 => rfl
  unfold got
  refine (hg _ _ _ _ _ hw (by omega)).trans ?_
  rw [ht, half_row]
  unfold feature
  congr 2
  · exact Fin.ext (by dsimp only; omega)
  · exact Fin.ext (by dsimp only; omega)

/-- The kernel's result at an index. -/
theorem kernel_at (h : InRange m) (d : Dev nD) (r : Fin 16384) (n : Fin 10) :
    (vfin m d (dv main_v30) : S16384x10.Idx → EReal) (ix2 r n)
      = soft (score (feature m h d r) (fun k j => (m ((SparseCore.T d).loc main_arg2) : S1600x256.Idx → EReal) (ix2 k j))
          (fun j => (m ((SparseCore.T d).loc main_arg3) : S256.Idx → EReal) (ix1 j))
          (fun j n => (m ((SparseCore.T d).loc main_arg4) : S256x10.Idx → EReal) (ix2 j n))
          (fun n => (m ((SparseCore.T d).loc main_arg5) : S10.Idx → EReal) (ix1 n))) n := by
  obtain ⟨q, s, rfl⟩ : ∃ (q : Fin 4) (s : Fin 4096), r = ⟨4096 * q.val + s.val, by omega⟩ :=
    ⟨⟨r.val / 4096, by omega⟩, ⟨r.val % 4096, by omega⟩, Fin.ext (by dsimp only; omega)⟩
  have hk : ∀ b : Ref sig .tc, (∀ q, b ∉ written q) → fed q (stq m q d) (dv b) = st0 m d (dv b) :=
    fun b hb => (fed_ne q _ b (hb q)).trans (stq_ne m q d b hb)
  rw [result_at, outs_kept, outs_post]
  show classed _ (fun k => rowsIn q _ (ix2 s k)) n = _
  unfold classed
  rw [hk main_v11 (by decide), hk main_v12 (by decide), hk main_arg4 (by decide), hk main_v13 (by decide), st0_arg m d main_arg4 (by decide)]
  simp only [fetched_row m h d q s, (weights m d).1, (weights m d).2.1, (weights m d).2.2]

/-- The reference's result at an index. -/
theorem reference_at (m' : (ℓ : Loc Cert.ReferenceIdeal.nD Cert.ReferenceIdeal.τ Cert.ReferenceIdeal.sig) → Buf (Elt Ideal) ℓ)
    (c : Dev Cert.ReferenceIdeal.nD) (a0 : S16384x50.Idx → BitVec 32) (a1 : S1000x32.Idx → EReal) (a2 : S1600x256.Idx → EReal)
    (a3 : S256.Idx → EReal) (a4 : S256x10.Idx → EReal) (a5 : S10.Idx → EReal)
    (h0 : m' ((c.tc : Thread Cert.ReferenceIdeal.nD Cert.ReferenceIdeal.τ).loc Cert.ReferenceIdeal.main_arg0) = a0)
    (h1 : m' ((c.tc : Thread Cert.ReferenceIdeal.nD Cert.ReferenceIdeal.τ).loc Cert.ReferenceIdeal.main_arg1) = a1)
    (h2 : m' ((c.tc : Thread Cert.ReferenceIdeal.nD Cert.ReferenceIdeal.τ).loc Cert.ReferenceIdeal.main_arg2) = a2)
    (h3 : m' ((c.tc : Thread Cert.ReferenceIdeal.nD Cert.ReferenceIdeal.τ).loc Cert.ReferenceIdeal.main_arg3) = a3)
    (h4 : m' ((c.tc : Thread Cert.ReferenceIdeal.nD Cert.ReferenceIdeal.τ).loc Cert.ReferenceIdeal.main_arg4) = a4)
    (h5 : m' ((c.tc : Thread Cert.ReferenceIdeal.nD Cert.ReferenceIdeal.τ).loc Cert.ReferenceIdeal.main_arg5) = a5)
    (h : ∀ j, (a0 j).toNat < 1000) (r : Fin 16384) (n : Fin 10) :
    (Cert.ReferenceIdeal.Value.res_out0 m' c : S16384x10.Idx → EReal) (ix2 r n)
      = soft (score (fun k => a1 (ix2 ⟨(a0 (ix2 r ⟨k.val / 32, by omega⟩)).toNat, h _⟩ ⟨k.val % 32, by omega⟩))
          (fun k j => a2 (ix2 k j)) (fun j => a3 (ix1 j)) (fun j n => a4 (ix2 j n)) (fun n => a5 (ix1 n))) n := by
  rw [ref_parts, h0, h1, h2, h3, h4, h5]
  refine (shares_at _ r n).trans ?_
  simp only [lifted_at, scores_at, looked_at _ _ h]
  rfl

attribute [local instance] Cert.Kernel.Gen.facts Cert.KernelIdeal.Gen.facts Cert.ReferenceIdeal.Gen.facts Cert.Pre_in_range.Gen.facts

/-- The two programs' results agree. -/
theorem value : Cert.algebraic_KernelIdeal_ReferenceIdeal := fun m g m' g' hpre hargs => by
  have h := inRange_ideal m hpre
  refine ⟨fun c => vfin m c (dv main_v30), (θ_run Cert.KernelIdeal.defs _ _).mono (fun r hr c => ?_) (run_kernel (F := Ideal) m g h),
    (θ_run Cert.ReferenceIdeal.defs _ _).mono (fun r hr c => ⟨(hr c).1.trans ?_, (hr c).2⟩) (Cert.ReferenceIdeal.Value.run m' g')⟩
  · have k := hr.1 c
    exact ⟨k.1, k.2 main_arg0 (by decide), k.2 main_arg1 (by decide), k.2 main_arg2 (by decide),
      k.2 main_arg3 (by decide), k.2 main_arg4 (by decide), k.2 main_arg5 (by decide)⟩
  · obtain ⟨h0, h1, h2, h3, h4, h5⟩ := hargs c
    refine funext fun i => ?_
    have e1 := reference_at m' c _ _ _ _ _ _ h0 h1 h2 h3 h4 h5 (h c) (i 0) (i 1)
    have e2 := kernel_at m h c (i 0) (i 1)
    rw [← eq_ix2 i] at e1 e2
    exact e1.trans e2.symm

end Cert.Proof.Lookup

end
-- ==== Proof.lean ====
/-
  The proof of `Cert.Claim`, from the modules under Proof/: one tile's run (Piece, Tile), a SparseCore call (Split,
  Call), a TensorCore call (Region), one round of both (Phase, Step), the four rounds (Main), the index list (List), the
  frames (Frame), and the value (Dense, RefRow, Blocks, Value).
-/
module

public import proofs.«01_k».proof.Defs
public import proofs.«01_k».proof.Proof.Frame
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Lookup.frame_kernel, Lookup.frame_ideal, Lookup.frame_reference, trivial, Lookup.value⟩

end Cert.Proof

end
